-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.sign_bit.Statement Cert.KernelIdeal.S256x1024 .f32

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S32x1024x64 : Shape := ⟨3, ![32, 1024, 64]⟩
abbrev S64x64 : Shape := ⟨2, ![64, 64]⟩
abbrev S16 : Shape := ⟨1, ![16]⟩
abbrev S32768x64 : Shape := ⟨2, ![32768, 64]⟩
abbrev S_ : Shape := ⟨0, ![]⟩
abbrev S8 : Shape := ⟨1, ![8]⟩
abbrev S15 : Shape := ⟨1, ![15]⟩
abbrev S32768x64x1 : Shape := ⟨3, ![32768, 64, 1]⟩
abbrev S1x1x8 : Shape := ⟨3, ![1, 1, 8]⟩
abbrev S32768x64x8 : Shape := ⟨3, ![32768, 64, 8]⟩

class Facts : Prop where
  shapeCasts_S32x1024x64_S32768x64 : S32x1024x64.ShapeCasts S32768x64
  transposes_S64x64_S64x64_1_0 : S64x64.Transposes [1, 0] S64x64
  bcast_S_S32768x64 : S_.BroadcastsInDim S32768x64 (![] : Fin 0 → Fin S32768x64.rank)
  slices_S16_S8_0 : S16.Slices ![0] S8
  slices_S16_S8_1 : S16.Slices ![1] S8
  bcast_S_S8 : S_.BroadcastsInDim S8 (![] : Fin 0 → Fin S8.rank)
  slices_S16_S15_0 : S16.Slices ![0] S15
  slices_S16_S15_1 : S16.Slices ![1] S15
  bcast_S_S16 : S_.BroadcastsInDim S16 (![] : Fin 0 → Fin S16.rank)
  bcast_S32768x64_S32768x64x1_0_1 : S32768x64.BroadcastsInDim S32768x64x1 (![0, 1] : Fin 2 → Fin S32768x64x1.rank)
  bcast_S8_S1x1x8_2 : S8.BroadcastsInDim S1x1x8 (![2] : Fin 1 → Fin S1x1x8.rank)
  bcast_S32768x64x1_S32768x64x8_0_1_2 : S32768x64x1.BroadcastsInDim S32768x64x8 (![0, 1, 2] : Fin 3 → Fin S32768x64x8.rank)
  bcast_S1x1x8_S32768x64x8_0_1_2 : S1x1x8.BroadcastsInDim S32768x64x8 (![0, 1, 2] : Fin 3 → Fin S32768x64x8.rank)
  dot_S32768x64_S64x64_S32768x64_1_0_0_1_n_n_wf : DotDims.WF S32768x64 S64x64 S32768x64 [1] [0] [0] [1] [] []

variable [Facts]

def dot_S32768x64_S64x64_S32768x64_1_0_0_1_n_n : DotDims S32768x64 S64x64 S32768x64 where
  lhsContracting := [1]
  rhsContracting := [0]
  lhsNonContracting := [0]
  rhsNonContracting := [1]
  lhsBatch := []
  rhsBatch := []
  wf := dot_S32768x64_S64x64_S32768x64_1_0_0_1_n_n_wf
def fn_part1 {F : FTy → Type} [FloatOps F] (main_v4 : FVec F S32768x64 .f32) (main_v9 : FVec F S8 .f32) (main_v12 : IVec S15 1) (main_v15 : IVec S16 1) (main_v17 : IVec S16 1) (main_v19 : IVec S32768x64 1) : IVec S15 1 × IVec S16 1 × IVec S16 1 × IVec S32768x64 1 × IVec S32768x64x8 1 :=
  let main_v20 : FVec F S32768x64x1 .f32 := broadcastInDim S32768x64x1 ![0, 1] bcast_S32768x64_S32768x64x1_0_1 main_v4
  let main_v21 : FVec F S1x1x8 .f32 := broadcastInDim S1x1x8 ![2] bcast_S8_S1x1x8_2 main_v9
  let main_v22 : FVec F S32768x64x8 .f32 := broadcastInDim S32768x64x8 ![0, 1, 2] bcast_S32768x64x1_S32768x64x8_0_1_2 main_v20
  let main_v23 : FVec F S32768x64x8 .f32 := broadcastInDim S32768x64x8 ![0, 1, 2] bcast_S1x1x8_S32768x64x8_0_1_2 main_v21
  let main_v24 : IVec S32768x64x8 1 := cmpf .une main_v22 main_v23
  (main_v12, main_v15, main_v17, main_v19, main_v24)

def fn {F : FTy → Type} [FloatOps F] (main_arg0 : FVec F S32x1024x64 .f32) (main_arg1 : FVec F S64x64 .f32) (main_arg2 : FVec F S16 .f32) : IVec S15 1 × IVec S16 1 × IVec S16 1 × IVec S32768x64 1 × IVec S32768x64x8 1 :=
  let main_v0 : FVec F S32768x64 .f32 := shapeCast S32768x64 main_arg0 shapeCasts_S32x1024x64_S32768x64
  let main_v1 : FVec F S64x64 .f32 := (transpose S64x64 [1, 0] · transposes_S64x64_S64x64_1_0) main_arg1
  let main_v2 : FVec F S32768x64 .f32 := (fun l r => Host.dotGeneral dot_S32768x64_S64x64_S32768x64_1_0_0_1_n_n none l r) main_v0 main_v1
  let main_cst : FVec F S_ .f32 := constant S_ .f32 0x3E000000#32
  let main_v3 : FVec F S32768x64 .f32 := broadcastInDim S32768x64 ![] bcast_S_S32768x64 main_cst
  let main_v4 : FVec F S32768x64 .f32 := Host.divf main_v2 main_v3
  let main_v5 : FVec F S8 .f32 := (extractStridedSlice S8 ![0] · slices_S16_S8_0) main_arg2
  let main_v6 : FVec F S8 .f32 := (extractStridedSlice S8 ![1] · slices_S16_S8_1) main_arg2
  let main_v7 : FVec F S8 .f32 := addf main_v5 main_v6
  let main_cst_0 : FVec F S_ .f32 := constant S_ .f32 0x3F000000#32
  let main_v8 : FVec F S8 .f32 := broadcastInDim S8 ![] bcast_S_S8 main_cst_0
  let main_v9 : FVec F S8 .f32 := mulf main_v7 main_v8
  let main_v10 : FVec F S15 .f32 := (extractStridedSlice S15 ![0] · slices_S16_S15_0) main_arg2
  let main_v11 : FVec F S15 .f32 := (extractStridedSlice S15 ![1] · slices_S16_S15_1) main_arg2
  let main_v12 : IVec S15 1 := cmpf .ole main_v10 main_v11
  let main_v13 : FVec F S16 .f32 := Host.reverse [0] main_arg2
  let main_v14 : FVec F S16 .f32 := Host.negf main_v13
  let main_v15 : IVec S16 1 := cmpf .oeq main_arg2 main_v14
  let main_cst_1 : FVec F S_ .f32 := constant S_ .f32 0x7F800000#32
  let main_v16 : FVec F S16 .f32 := broadcastInDim S16 ![] bcast_S_S16 main_cst_1
  let main_v17 : IVec S16 1 := cmpf .olt main_arg2 main_v16
  let main_cst_2 : FVec F S_ .f32 := constant S_ .f32 0x7F800000#32
  let main_v18 : FVec F S32768x64 .f32 := broadcastInDim S32768x64 ![] bcast_S_S32768x64 main_cst_2
  let main_v19 : IVec S32768x64 1 := cmpf .olt main_v4 main_v18
  fn_part1 (F := F) main_v4 main_v9 main_v12 main_v15 main_v17 main_v19
-- ==== Kernel.lean ====
abbrev S32x1024x64 : Shape := ⟨3, ![32, 1024, 64]⟩
abbrev S64x64 : Shape := ⟨2, ![64, 64]⟩
abbrev S16 : Shape := ⟨1, ![16]⟩
abbrev S1x16 : Shape := ⟨2, ![1, 16]⟩
abbrev S32x64x1024 : Shape := ⟨3, ![32, 64, 1024]⟩
abbrev S8x64x1024 : Shape := ⟨3, ![8, 64, 1024]⟩
abbrev S256x256 : Shape := ⟨2, ![256, 256]⟩
abbrev S1x1 : Shape := ⟨2, ![1, 1]⟩
abbrev S4x64x1024 : Shape := ⟨3, ![4, 64, 1024]⟩
abbrev S256x1024 : Shape := ⟨2, ![256, 1024]⟩

abbrev nBuf : Space → Nat
  | .hbm => 7
  | .vmem => 6
  | .smem => 1
  | _ => 0

abbrev bufTy : (tb : Table) → Fin (tcTables nBuf tb) → BufTy
  | .hbm, ⟨0, _⟩ => ⟨S32x1024x64, .f32⟩
  | .hbm, ⟨1, _⟩ => ⟨S64x64, .f32⟩
  | .hbm, ⟨2, _⟩ => ⟨S16, .f32⟩
  | .hbm, ⟨3, _⟩ => ⟨S1x16, .f32⟩
  | .hbm, ⟨4, _⟩ => ⟨S32x64x1024, .f32⟩
  | .hbm, ⟨5, _⟩ => ⟨S32x64x1024, .f32⟩
  | .hbm, ⟨6, _⟩ => ⟨S32x1024x64, .f32⟩
  | .local _ .vmem, ⟨0, _⟩ => ⟨S8x64x1024, .f32⟩
  | .local _ .vmem, ⟨1, _⟩ => ⟨S8x64x1024, .f32⟩
  | .local _ .vmem, ⟨2, _⟩ => ⟨S64x64, .f32⟩
  | .local _ .vmem, ⟨3, _⟩ => ⟨S8x64x1024, .f32⟩
  | .local _ .vmem, ⟨4, _⟩ => ⟨S8x64x1024, .f32⟩
  | .local _ .vmem, ⟨5, _⟩ => ⟨S256x256, .f32⟩
  | .local _ .smem, ⟨0, _⟩ => ⟨S1x16, .f32⟩
  | _, _ => ⟨S32x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [BitOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F]
-- ==== ReferenceIdeal.lean ====
abbrev S32x1024x64 : Shape := ⟨3, ![32, 1024, 64]⟩
abbrev S64x64 : Shape := ⟨2, ![64, 64]⟩
abbrev S16 : Shape := ⟨1, ![16]⟩
abbrev S32768x64 : Shape := ⟨2, ![32768, 64]⟩
abbrev S_ : Shape := ⟨0, ![]⟩
abbrev S32768x64x1 : Shape := ⟨3, ![32768, 64, 1]⟩
abbrev S1x1x16 : Shape := ⟨3, ![1, 1, 16]⟩
abbrev S32768x64x16 : Shape := ⟨3, ![32768, 64, 16]⟩
abbrev S1 : Shape := ⟨1, ![1]⟩
abbrev S1x1x1 : Shape := ⟨3, ![1, 1, 1]⟩

abbrev nBuf : Space → Nat
  | .hbm => 47
  | .vmem => 0
  | .smem => 0
  | _ => 0

abbrev bufTy : (tb : Table) → Fin (tcTables nBuf tb) → BufTy
  | .hbm, ⟨0, _⟩ => ⟨S32x1024x64, .f32⟩
  | .hbm, ⟨1, _⟩ => ⟨S64x64, .f32⟩
  | .hbm, ⟨2, _⟩ => ⟨S16, .f32⟩
  | .hbm, ⟨3, _⟩ => ⟨S32768x64, .f32⟩
  | .hbm, ⟨4, _⟩ => ⟨S64x64, .f32⟩
  | .hbm, ⟨5, _⟩ => ⟨S32768x64, .f32⟩
  | .hbm, ⟨6, _⟩ => ⟨S_, .f32⟩
  | .hbm, ⟨7, _⟩ => ⟨S32768x64, .f32⟩
  | .hbm, ⟨8, _⟩ => ⟨S32768x64, .f32⟩
  | .hbm, ⟨9, _⟩ => ⟨S32768x64x1, .f32⟩
  | .hbm, ⟨10, _⟩ => ⟨S1x1x16, .f32⟩
  | .hbm, ⟨11, _⟩ => ⟨S32768x64x16, .f32⟩
  | .hbm, ⟨12, _⟩ => ⟨S32768x64x16, .f32⟩
  | .hbm, ⟨13, _⟩ => ⟨S32768x64x16, .f32⟩
  | .hbm, ⟨14, _⟩ => ⟨S32768x64x16, .f32⟩
  | .hbm, ⟨15, _⟩ => ⟨S32768x64x16, .i32⟩
  | .hbm, ⟨16, _⟩ => ⟨S_, .f32⟩
  | .hbm, ⟨17, _⟩ => ⟨S_, .i32⟩
  | .hbm, ⟨18, _⟩ => ⟨S32768x64, .f32⟩
  | .hbm, ⟨19, _⟩ => ⟨S32768x64, .i32⟩
  | .hbm, ⟨20, _⟩ => ⟨S_, .i32⟩
  | .hbm, ⟨21, _⟩ => ⟨S32768x64, .i32⟩
  | .hbm, ⟨22, _⟩ => ⟨S32768x64, .i1⟩
  | .hbm, ⟨23, _⟩ => ⟨S_, .i32⟩
  | .hbm, ⟨24, _⟩ => ⟨S32768x64, .i32⟩
  | .hbm, ⟨25, _⟩ => ⟨S32768x64, .i32⟩
  | .hbm, ⟨26, _⟩ => ⟨S32768x64, .i32⟩
  | .hbm, ⟨27, _⟩ => ⟨S32768x64x1, .i32⟩
  | .hbm, ⟨28, _⟩ => ⟨S1, .i32⟩
  | .hbm, ⟨29, _⟩ => ⟨S_, .i32⟩
  | .hbm, ⟨30, _⟩ => ⟨S32768x64x1, .i32⟩
  | .hbm, ⟨31, _⟩ => ⟨S32768x64x1, .i1⟩
  | .hbm, ⟨32, _⟩ => ⟨S1x1x1, .i32⟩
  | .hbm, ⟨33, _⟩ => ⟨S32768x64x1, .i32⟩
  | .hbm, ⟨34, _⟩ => ⟨S32768x64x1, .i1⟩
  | .hbm, ⟨35, _⟩ => ⟨S32768x64x1, .i1⟩
  | .hbm, ⟨36, _⟩ => ⟨S_, .i1⟩
  | .hbm, ⟨37, _⟩ => ⟨S32768x64, .i1⟩
  | .hbm, ⟨38, _⟩ => ⟨S32768x64, .f32⟩
  | .hbm, ⟨39, _⟩ => ⟨S_, .f32⟩
  | .hbm, ⟨40, _⟩ => ⟨S32768x64, .f32⟩
  | .hbm, ⟨41, _⟩ => ⟨S32768x64, .f32⟩
  | .hbm, ⟨42, _⟩ => ⟨S_, .f32⟩
  | .hbm, ⟨43, _⟩ => ⟨S32768x64, .f32⟩
  | .hbm, ⟨44, _⟩ => ⟨S32768x64, .f32⟩
  | .hbm, ⟨45, _⟩ => ⟨S32768x64, .f32⟩
  | .hbm, ⟨46, _⟩ => ⟨S32x1024x64, .f32⟩
  | _, _ => ⟨S32x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_cst : Ref sig .tc := ⟨.hbm, 16, rfl⟩
abbrev main_call0_c : Ref sig .tc := ⟨.hbm, 17, rfl⟩
abbrev main_call0_v1_0 : Ref sig .tc := ⟨.hbm, 18, rfl⟩
abbrev main_v11 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v12 : Ref sig .tc := ⟨.hbm, 41, rfl⟩
abbrev main_cst_0 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩

abbrev nD : Nat := 1
abbrev τ : Topo := Topo.v7x

variable {F : FTy → Type} [FloatOps F]
-- ==== Proof.Quant.lean ====
module

public import Idealize.ShloMosaic.PureOps.Ideal
public import Idealize.ShloMosaic.PureOps.Ideal.Laws
public import Idealize.ShloMosaic.Lib.IdealHost
public import Mathlib.Tactic.Linarith
public import Mathlib.Tactic.IntervalCases

/-!
The quantiser, one number at a time.  The kernel takes the size of a coordinate, finds the cell of the upper
half of the codebook it falls in by comparing it with the cells' borders, and gives the entry the coordinate's
sign.  The reference takes the first codebook entry at the smallest distance.  On an ascending codebook that is
its own mirror image the two are the same entry wherever the coordinate is not on one of the lower borders.
-/

@[expose] public section

noncomputable section

open Idealize.ShloMosaic

namespace Cert.Quant

/-- The scale, one eighth. -/
def scale : EReal := Ideal.ofBits .f32 0x3E000000#32

/-- One half. -/
def half : EReal := Ideal.ofBits .f32 0x3F000000#32

theorem scale_eq : scale = (((1 : ℝ) / 8 : ℝ) : EReal) := by
  unfold scale
  simp [Ideal.ofBits, Ideal.ieee, -EReal.coe_mul]; norm_num

theorem half_eq : half = (((1 : ℝ) / 2 : ℝ) : EReal) := by
  unfold half
  simp [Ideal.ofBits, Ideal.ieee, -EReal.coe_mul]; norm_num

theorem top_eq : Ideal.ofBits .f32 0x7F800000#32 = ⊤ := by
  simp [Ideal.ofBits, Ideal.ieee]

/-- Entry `j` of the codebook's upper half, rescaled. -/
def cell (cb : Fin 16 → EReal) (j : Fin 8) : EReal := cb ⟨8 + j.val, by omega⟩ * scale

/-- The border between two neighbouring rescaled entries. -/
def border (a b : EReal) : EReal := (a + b) * half

/-- The search tree over the seven borders. -/
def tree (c : Fin 8 → EReal) (a : EReal) : EReal :=
  if border (c 3) (c 4) < a then
    if border (c 5) (c 6) < a then
      if border (c 6) (c 7) < a then c 7 else c 6
    else
      if border (c 4) (c 5) < a then c 5 else c 4
  else
    if border (c 1) (c 2) < a then
      if border (c 2) (c 3) < a then c 3 else c 2
    else
      if border (c 0) (c 1) < a then c 1 else c 0

/-- The kernel's quantiser: the entry of the cell the size falls in, with the sign put back. -/
def quant (cb : Fin 16 → EReal) (y : EReal) : EReal :=
  tree (cell cb) (max y (-y)) * (if y < 0 then -1 else 1)

/-- The distance from a coordinate, in units of the scale, to a codebook entry. -/
def dist (cb : Fin 16 → EReal) (y : EReal) (k : Fin 16) : EReal := max (y - cb k) (-(y - cb k))

/-- What is asked of the codebook: ascending, its own mirror image, and finite. -/
structure Book (cb : Fin 16 → EReal) : Prop where
  mono : ∀ j : Fin 15, cb j.castSucc ≤ cb j.succ
  mirror : ∀ j : Fin 16, cb j = -cb j.rev
  finite : ∀ j : Fin 16, cb j < ⊤

/-- Such a codebook is sixteen ascending real numbers that mirror each other. -/
theorem Book.real {cb : Fin 16 → EReal} (h : Book cb) :
    ∃ r : Fin 16 → ℝ, (∀ j, cb j = (r j : EReal)) ∧ Monotone r ∧ ∀ j, r j = -r j.rev := by
  have hbot : ∀ j, cb j ≠ ⊥ := fun j hj => by
    have h1 := h.finite j.rev
    rw [h.mirror j.rev, Fin.rev_rev, hj] at h1
    simp at h1
  have hr : ∀ j, cb j = ((cb j).toReal : EReal) := fun j =>
    (EReal.coe_toReal (h.finite j).ne (hbot j)).symm
  refine ⟨fun j => (cb j).toReal, hr, Fin.monotone_iff_le_succ.2 fun j => ?_, fun j => ?_⟩
  · have := h.mono j
    rw [hr j.castSucc, hr j.succ] at this
    exact EReal.coe_le_coe_iff.1 this
  · have := h.mirror j
    rw [hr j, hr j.rev, ← EReal.coe_neg] at this
    exact EReal.coe_injective this

/-- A first smallest distance is at the entry whose neighbours' borders enclose the coordinate. -/
theorem first_nearest {r : Fin 16 → ℝ} (hm : Monotone r) {y : ℝ} {k J : Fin 16}
    (hmin : ∀ l, |y - r k| ≤ |y - r l|) (hfirst : ∀ l, l < k → |y - r k| < |y - r l|)
    (hlo : ∀ i, i < J → r i + r J < 2 * y) (hhi : ∀ i, J < i → 2 * y ≤ r J + r i) : r k = r J := by
  rcases lt_trichotomy k J with h | h | h
  · have h1 := hlo k h
    have h2 := hmin J
    have h3 := le_abs_self (y - r k)
    have h4 := hm h.le
    rcases abs_cases (y - r J) with h5 | h5 <;> linarith
  · rw [h]
  · have h1 := hhi k h
    have h2 := hfirst J h
    have h3 := neg_abs_le (y - r k)
    have h4 := hm h.le
    rcases abs_cases (y - r J) with h5 | h5 <;> linarith

/-- The borders below an entry, from the one next to it. -/
theorem below {r : Fin 16 → ℝ} (hm : Monotone r) {z : ℝ} (J : Fin 15) (h : r J.castSucc + r J.succ < z) :
    ∀ i, i < J.succ → r i + r J.succ < z := fun i hi => by
  have := hm (Fin.le_castSucc_iff.2 hi); linarith

/-- The borders above an entry, from the one next to it. -/
theorem above {r : Fin 16 → ℝ} (hm : Monotone r) {z : ℝ} (J : Fin 15) (h : z ≤ r J.castSucc + r J.succ) :
    ∀ i, J.castSucc < i → z ≤ r J.castSucc + r i := fun i hi => by
  have := hm (Fin.castSucc_lt_iff_succ_le.1 hi); linarith

/-- The search tree on real numbers. -/
def treeR (c : Fin 8 → ℝ) (a : ℝ) : ℝ :=
  if (c 3 + c 4) * (1 / 2) < a then
    if (c 5 + c 6) * (1 / 2) < a then
      if (c 6 + c 7) * (1 / 2) < a then c 7 else c 6
    else
      if (c 4 + c 5) * (1 / 2) < a then c 5 else c 4
  else
    if (c 1 + c 2) * (1 / 2) < a then
      if (c 2 + c 3) * (1 / 2) < a then c 3 else c 2
    else
      if (c 0 + c 1) * (1 / 2) < a then c 1 else c 0

theorem tree_coe (c : Fin 8 → ℝ) (a : ℝ) : tree (fun j => (c j : EReal)) (a : EReal) = (treeR c a : EReal) := by
  unfold tree treeR border
  simp only [half_eq, ← EReal.coe_add, ← EReal.coe_mul, EReal.coe_lt_coe_iff]
  split_ifs <;> rfl

/-- The tree's leaf is a cell whose two borders enclose the size. -/
theorem treeR_leaf (c : Fin 8 → ℝ) (a : ℝ) : ∃ j : Fin 8, treeR c a = c j
    ∧ (∀ i : Fin 7, i.succ = j → c i.castSucc + c i.succ < 2 * a)
    ∧ (∀ i : Fin 7, i.castSucc = j → 2 * a ≤ c i.castSucc + c i.succ) := by
  unfold treeR
  split_ifs with h1 h2 h3 h3 h2 h3 h3
  · exact ⟨7, rfl, fun i hi => by fin_cases i <;> simp_all <;> linarith, fun i hi => by fin_cases i <;> simp_all <;> linarith⟩
  · exact ⟨6, rfl, fun i hi => by fin_cases i <;> simp_all <;> linarith, fun i hi => by fin_cases i <;> simp_all <;> linarith⟩
  · exact ⟨5, rfl, fun i hi => by fin_cases i <;> simp_all <;> linarith, fun i hi => by fin_cases i <;> simp_all <;> linarith⟩
  · exact ⟨4, rfl, fun i hi => by fin_cases i <;> simp_all <;> linarith, fun i hi => by fin_cases i <;> simp_all <;> linarith⟩
  · exact ⟨3, rfl, fun i hi => by fin_cases i <;> simp_all <;> linarith, fun i hi => by fin_cases i <;> simp_all <;> linarith⟩
  · exact ⟨2, rfl, fun i hi => by fin_cases i <;> simp_all <;> linarith, fun i hi => by fin_cases i <;> simp_all <;> linarith⟩
  · exact ⟨1, rfl, fun i hi => by fin_cases i <;> simp_all <;> linarith, fun i hi => by fin_cases i <;> simp_all <;> linarith⟩
  · exact ⟨0, rfl, fun i hi => by fin_cases i <;> simp_all <;> linarith, fun i hi => by fin_cases i <;> simp_all <;> linarith⟩

/-- On real numbers: the tree's leaf with the sign put back is the first nearest entry. -/
theorem quantR {r : Fin 16 → ℝ} (hm : Monotone r) (hr : ∀ j, r j = -r j.rev) {y : ℝ} {k : Fin 16}
    (hmin : ∀ l, |y - r k| ≤ |y - r l|) (hfirst : ∀ l, l < k → |y - r k| < |y - r l|)
    (hsep : ∀ j : Fin 8, 2 * y ≠ r ⟨j.val, by omega⟩ + r ⟨j.val + 1, by omega⟩) :
    treeR (fun j => r ⟨8 + j.val, by omega⟩ * (1 / 8)) |y * (1 / 8)| * (if y < 0 then -1 else 1) = r k * (1 / 8) := by
  obtain ⟨j, hj, hlo, hhi⟩ := treeR_leaf (fun j => r ⟨8 + j.val, by omega⟩ * (1 / 8)) |y * (1 / 8)|
  rw [hj]
  have h78 : r 7 + r 8 = 0 := by rw [hr 7]; simp [Fin.rev]
  have hy0 : y ≠ 0 := fun h => hsep 7 (by subst h; simp only [mul_zero]; exact h78.symm)
  rcases lt_or_gt_of_ne hy0 with hy | hy
  · -- below zero: the mirror image of the leaf
    rw [if_pos hy]
    rw [abs_of_neg (by linarith : y * (1 / 8) < 0)] at hlo hhi
    have key : r k = r ⟨7 - j.val, by omega⟩ := by
      refine first_nearest hm hmin hfirst ?_ ?_
      · rcases Nat.lt_or_ge j.val 7 with h7 | h7
        · have h1 := hhi ⟨j.val, h7⟩ rfl
          have h2 := hsep ⟨6 - j.val, by omega⟩
          have e := below hm (z := 2 * y) (⟨6 - j.val, by omega⟩ : Fin 15) ?_
          · have : (⟨6 - j.val, by omega⟩ : Fin 15).succ = (⟨7 - j.val, by omega⟩ : Fin 16) := Fin.ext (by simp; omega)
            rwa [this] at e
          · refine lt_of_le_of_ne ?_ (fun h => h2 ?_)
            · have e1 := hr (⟨6 - j.val, by omega⟩ : Fin 15).castSucc
              have e2 := hr (⟨6 - j.val, by omega⟩ : Fin 15).succ
              have f1 : (⟨6 - j.val, by omega⟩ : Fin 15).castSucc.rev = (⟨8 + (j.val + 1), by omega⟩ : Fin 16) := Fin.ext (by simp [Fin.rev]; omega)
              have f2 : (⟨6 - j.val, by omega⟩ : Fin 15).succ.rev = (⟨8 + j.val, by omega⟩ : Fin 16) := Fin.ext (by simp [Fin.rev]; omega)
              rw [f1] at e1; rw [f2] at e2
              simp only [Fin.val_succ, Fin.val_castSucc] at h1
              linarith
            · rw [← h]; rfl
        · intro i hi
          exfalso
          have := Fin.lt_def.1 hi
          simp at this; omega
      · have e := above hm (z := 2 * y) (⟨7 - j.val, by omega⟩ : Fin 15) ?_
        · exact e
        · have e1 := hr (⟨7 - j.val, by omega⟩ : Fin 15).castSucc
          have e2 := hr (⟨7 - j.val, by omega⟩ : Fin 15).succ
          have f1 : (⟨7 - j.val, by omega⟩ : Fin 15).castSucc.rev = (⟨8 + j.val, by omega⟩ : Fin 16) := Fin.ext (by simp [Fin.rev]; omega)
          have f2 : (⟨7 - j.val, by omega⟩ : Fin 15).succ.rev = (⟨8 + j.val - 1, by omega⟩ : Fin 16) := Fin.ext (by simp [Fin.rev]; omega)
          rw [f1] at e1; rw [f2] at e2
          rcases Nat.eq_zero_or_pos j.val with h0 | h0
          · have g1 : (⟨8 + j.val, by omega⟩ : Fin 16) = 8 := Fin.ext (by simp [h0])
            have g2 : (⟨8 + j.val - 1, by omega⟩ : Fin 16) = 7 := Fin.ext (by simp [h0])
            rw [g1] at e1; rw [g2] at e2
            linarith
          · have h1 := hlo ⟨j.val - 1, by omega⟩ (Fin.ext (by simp; omega))
            have g1 : (⟨8 + (⟨j.val - 1, by omega⟩ : Fin 7).succ.val, by simp; omega⟩ : Fin 16) = ⟨8 + j.val, by omega⟩ := Fin.ext (by simp; omega)
            have g2 : (⟨8 + (⟨j.val - 1, by omega⟩ : Fin 7).castSucc.val, by simp; omega⟩ : Fin 16) = ⟨8 + j.val - 1, by omega⟩ := Fin.ext (by simp; omega)
            rw [g1, g2] at h1
            linarith
    rw [key, hr ⟨7 - j.val, by omega⟩]
    have f : (⟨7 - j.val, by omega⟩ : Fin 16).rev = ⟨8 + j.val, by omega⟩ := Fin.ext (by simp [Fin.rev]; omega)
    rw [f]; ring
  · -- above zero: the leaf itself
    rw [if_neg (not_lt.2 hy.le)]
    rw [abs_of_pos (by linarith : 0 < y * (1 / 8))] at hlo hhi
    have key : r k = r ⟨8 + j.val, by omega⟩ := by
      refine first_nearest hm hmin hfirst ?_ ?_
      · have e := below hm (z := 2 * y) (⟨7 + j.val, by omega⟩ : Fin 15) ?_
        · have : (⟨7 + j.val, by omega⟩ : Fin 15).succ = (⟨8 + j.val, by omega⟩ : Fin 16) := Fin.ext (by simp; omega)
          rwa [this] at e
        · have f1 : (⟨7 + j.val, by omega⟩ : Fin 15).succ = (⟨8 + j.val, by omega⟩ : Fin 16) := Fin.ext (by simp; omega)
          rw [f1]
          rcases Nat.eq_zero_or_pos j.val with h0 | h0
          · have g1 : (⟨8 + j.val, by omega⟩ : Fin 16) = 8 := Fin.ext (by simp [h0])
            have g2 : (⟨7 + j.val, by omega⟩ : Fin 15).castSucc = (7 : Fin 16) := Fin.ext (by simp [h0])
            rw [g1, g2]
            linarith
          · have h1 := hlo ⟨j.val - 1, by omega⟩ (Fin.ext (by simp; omega))
            have g1 : (⟨8 + (⟨j.val - 1, by omega⟩ : Fin 7).succ.val, by simp; omega⟩ : Fin 16) = ⟨8 + j.val, by omega⟩ := Fin.ext (by simp; omega)
            have g2 : (⟨8 + (⟨j.val - 1, by omega⟩ : Fin 7).castSucc.val, by simp; omega⟩ : Fin 16) = (⟨7 + j.val, by omega⟩ : Fin 15).castSucc := Fin.ext (by simp; omega)
            rw [g1, g2] at h1
            linarith
      · rcases Nat.lt_or_ge j.val 7 with h7 | h7
        · have h1 := hhi ⟨j.val, h7⟩ rfl
          have e := above hm (z := 2 * y) (⟨8 + j.val, by omega⟩ : Fin 15) ?_
          · exact e
          · have f2 : (⟨8 + j.val, by omega⟩ : Fin 15).succ = (⟨8 + (j.val + 1), by omega⟩ : Fin 16) := Fin.ext (by simp; omega)
            have f1 : (⟨8 + j.val, by omega⟩ : Fin 15).castSucc = (⟨8 + j.val, by omega⟩ : Fin 16) := rfl
            rw [f1, f2]
            simp only [Fin.val_succ, Fin.val_castSucc] at h1
            linarith
        · intro i hi
          exfalso
          have := Fin.lt_def.1 hi
          simp at this; omega
    rw [key]; ring

/-- Dividing by the scale, on a real number. -/
theorem div_scale_coe (t : ℝ) : Ideal.div (t : EReal) scale = ((t * 8 : ℝ) : EReal) := by
  rw [scale_eq]
  unfold Ideal.div
  rw [if_neg (by rw [← EReal.coe_zero, EReal.coe_eq_coe_iff]; norm_num), ← EReal.coe_inv, ← EReal.coe_mul]
  norm_num

theorem div_scale_bot : Ideal.div ⊥ scale = ⊥ := by
  rw [scale_eq]
  unfold Ideal.div
  rw [if_neg (by rw [← EReal.coe_zero, EReal.coe_eq_coe_iff]; norm_num), ← EReal.coe_inv]
  exact EReal.bot_mul_coe_of_pos (by norm_num)

theorem div_scale_top : Ideal.div ⊤ scale = ⊤ := by
  rw [scale_eq]
  unfold Ideal.div
  rw [if_neg (by rw [← EReal.coe_zero, EReal.coe_eq_coe_iff]; norm_num), ← EReal.coe_inv]
  exact EReal.top_mul_coe_of_pos (by norm_num)

theorem dist_coe (r : Fin 16 → ℝ) (t : ℝ) (k : Fin 16) :
    dist (fun j => (r j : EReal)) (t : EReal) k = ((|t - r k| : ℝ) : EReal) := by
  unfold dist
  rw [← EReal.coe_sub, ← EReal.coe_neg, abs_eq_max_neg, EReal.coe_strictMono.monotone.map_max]

/-- The kernel's quantiser gives the entry the reference's first smallest distance is at, rescaled. -/
theorem quant_eq {cb : Fin 16 → EReal} (h : Book cb) {y : EReal} {k : Fin 16} (hy : Ideal.div y scale < ⊤)
    (hmin : ∀ l, dist cb (Ideal.div y scale) k ≤ dist cb (Ideal.div y scale) l)
    (hfirst : ∀ l, l < k → dist cb (Ideal.div y scale) k < dist cb (Ideal.div y scale) l)
    (hsep : ∀ j : Fin 8, Ideal.div y scale ≠ border (cb ⟨j.val, by omega⟩) (cb ⟨j.val + 1, by omega⟩)) :
    quant cb y = cb k * scale := by
  obtain ⟨r, hr, hm, hmir⟩ := h.real
  obtain rfl : cb = fun j => (r j : EReal) := funext hr
  have hc : cell (fun j => (r j : EReal)) = fun j => ((r ⟨8 + j.val, by omega⟩ * (1 / 8) : ℝ) : EReal) := by
    funext j
    unfold cell
    rw [scale_eq, ← EReal.coe_mul]
  unfold quant
  rw [hc]
  induction y with
  | top => rw [div_scale_top] at hy; exact absurd hy (lt_irrefl _)
  | bot =>
    have hk : k = 0 := by
      by_contra hk
      have h0 := hfirst 0 (Fin.pos_iff_ne_zero.2 hk)
      rw [div_scale_bot] at h0
      have e : ∀ l, dist (fun j => (r j : EReal)) ⊥ l = ⊤ := fun l => by
        unfold dist; simp
      rw [e, e] at h0
      exact lt_irrefl _ h0
    subst hk
    have e : ∀ c : Fin 8 → ℝ, tree (fun j => (c j : EReal)) ⊤ = (c 7 : EReal) := fun c => by
      unfold tree border
      simp only [half_eq, ← EReal.coe_add, ← EReal.coe_mul, EReal.coe_lt_top, if_true]
    rw [show max (⊥ : EReal) (-⊥) = ⊤ by simp, e, if_pos (EReal.bot_lt_zero), scale_eq]
    beta_reduce
    rw [hmir 0]
    have f : (0 : Fin 16).rev = ⟨8 + (7 : Fin 8).val, by simp⟩ := by decide
    rw [f, show (-1 : EReal) = ((-1 : ℝ) : EReal) by simp, ← EReal.coe_mul, ← EReal.coe_mul]
    congr 1
    ring
  | coe t =>
    simp only [div_scale_coe, dist_coe, EReal.coe_le_coe_iff, EReal.coe_lt_coe_iff] at hmin hfirst hsep
    have hs : ∀ j : Fin 8, 2 * (t * 8) ≠ r ⟨j.val, by omega⟩ + r ⟨j.val + 1, by omega⟩ := fun j e => hsep j (by
      unfold border
      rw [half_eq, ← EReal.coe_add, ← EReal.coe_mul, ← e]
      congr 1
      ring)
    have key := quantR hm hmir hmin hfirst hs
    rw [show max ((t : EReal)) (-(t : EReal)) = ((|t| : ℝ) : EReal) by
      rw [← EReal.coe_neg, abs_eq_max_neg, EReal.coe_strictMono.monotone.map_max], tree_coe, scale_eq, ← EReal.coe_mul, ← key]
    have e1 : t * 8 * (1 / 8) = t := by ring
    rw [e1]
    by_cases ht : t < 0
    · rw [if_pos (by rw [← EReal.coe_zero]; exact EReal.coe_lt_coe_iff.2 ht), if_pos (by linarith),
        show (-1 : EReal) = ((-1 : ℝ) : EReal) by simp, ← EReal.coe_mul]
    · rw [if_neg (by rw [← EReal.coe_zero]; exact fun h => ht (EReal.coe_lt_coe_iff.1 h)), if_neg (by linarith), mul_one, mul_one]

end Cert.Quant

end
-- ==== Proof.Block.lean ====
module

public import proofs.«01_k».proof.Proof.Gen.KernelIdeal.Skeleton
public import proofs.«01_k».proof.Proof.Quant
public import Idealize.ShloMosaic.PureOps.Ideal.Laws
public import Idealize.ShloMosaic.Lib.Pointwise

/-!
What one block computes, over the extended reals: with four copies of the rotation along the diagonal of a
matrix, a group of four batches is turned, quantised and turned back, each batch by its own copy.
-/

@[expose] public section

set_option maxRecDepth 16384

noncomputable section

open Idealize.ShloMosaic Idealize.ShloMosaic.TcCoe

namespace Cert.KernelIdeal.Value

open Cert.KernelIdeal Cert.KernelIdeal.Gen

/-- A coordinate's quantised value from the eight scaled entries and the seven borders, as the kernel chooses it. -/
def choose (c0 c1 c2 c3 c4 c5 c6 c7 m1 m2 m3 m4 m5 m6 m7 y : EReal) : EReal :=
  (if m4 < max y (-y) then
      if m6 < max y (-y) then (if m7 < max y (-y) then c7 else c6) else (if m5 < max y (-y) then c5 else c4)
    else if m2 < max y (-y) then (if m3 < max y (-y) then c3 else c2) else (if m1 < max y (-y) then c1 else c0))
    * (if y < 0 then -1 else 1)

/-- The word the kernel carries a negative sign by. -/
theorem minus_one : Ideal.ofBits .f32 3212836864#32 = -1 := IdealRules.sign_bit.ideal_negOnePat .f32

/-- Row `p` of the first group's four batches, turned by the whole matrix. -/
def turnedAt (m : FVec Ideal S256x256 .f32) (x : FVec Ideal S8x64x1024 .f32) (o : Nat) (ho : o + 4 ≤ 8) (p : Fin 256) (s : Fin 1024) : EReal :=
  ∑ q : Fin 256, m (ix2 p q) * x (ix3 ⟨o + q.val / 64, by omega⟩ ⟨q.val % 64, by omega⟩ s)

/-- The first group's output at an index. -/
theorem first_apply (m : FVec Ideal S256x256 .f32) (c0 c1 c2 c3 c4 c5 c6 c7 m1 m2 m3 v : EReal) (x : FVec Ideal S8x64x1024 .f32)
    (g : Fin 4) (d : Fin 64) (s : Fin 1024) :
    k0_pay27 (F := Ideal) m c0 c1 c2 c3 c4 c5 c6 c7 m1 m2 m3 v x (ix3 g d s)
      = ∑ p : Fin 256, m (ix2 p ⟨g.val * 64 + d.val, by omega⟩)
        * choose c0 c1 c2 c3 c4 c5 c6 c7 m1 m2 m3 (v * Quant.half) (Quant.border c4 c5) (Quant.border c5 c6) (Quant.border c6 c7) (turnedAt m x 0 (by decide) p s) := by
  pointwise [k0_pay27, k0_pay26, k0_pay25, k0_pay24, k0_pay23, k0_pay22]
  rw [minus_one]
  refine Finset.sum_congr rfl fun p _ => ?_
  unfold turnedAt choose
  simp only [Nat.zero_add]
  rfl

/-- The second group's output at an index. -/
theorem second_apply (m : FVec Ideal S256x256 .f32) (c0 c1 c2 c3 c4 c5 c6 c7 m1 m2 m3 m4 m5 m6 m7 : EReal) (x : FVec Ideal S8x64x1024 .f32)
    (g : Fin 4) (d : Fin 64) (s : Fin 1024) :
    k0_pay4 (F := Ideal) m c0 c1 c2 c3 m1 m2 m3 m4 x (k0_pay3 (F := Ideal) m c4 c5 c6 c7 m5 m6 m7 x) (ix3 g d s)
      = ∑ p : Fin 256, m (ix2 p ⟨g.val * 64 + d.val, by omega⟩)
        * choose c0 c1 c2 c3 c4 c5 c6 c7 m1 m2 m3 m4 m5 m6 m7 (turnedAt m x 4 (by decide) p s) := by
  pointwise [k0_pay4, k0_pay3, k0_pay2, k0_pay1]
  rw [minus_one]
  rfl

/-- A sum over two hundred and fifty-six places, block by block. -/
theorem sum_blocks (f : Fin 256 → EReal) :
    ∑ p : Fin 256, f p = ∑ g : Fin 4, ∑ e : Fin 64, f ⟨g.val * 64 + e.val, by omega⟩ := by
  rw [← Fintype.sum_prod_type' (f := fun (g : Fin 4) (e : Fin 64) => f ⟨g.val * 64 + e.val, by omega⟩)]
  exact (Fintype.sum_equiv (finProdFinEquiv (m := 4) (n := 64)) _ _ fun a => by
    congr 1; apply Fin.ext; show a.1.val * 64 + a.2.val = a.2.val + 64 * a.1.val; omega).symm

/-- A matrix with four copies of the rotation along its diagonal and zeros elsewhere. -/
def Diagonal (m : FVec Ideal S256x256 .f32) (r : FVec Ideal S64x64 .f32) : Prop :=
  ∀ (g h : Fin 4) (e d : Fin 64), m (ix2 ⟨g.val * 64 + e.val, by omega⟩ ⟨h.val * 64 + d.val, by omega⟩)
    = if g = h then r (ix2 e d) else 0

/-- The turned row of a batch is its own copy's. -/
theorem turnedAt_eq (m : FVec Ideal S256x256 .f32) (r : FVec Ideal S64x64 .f32) (hm : Diagonal m r)
    (x : FVec Ideal S8x64x1024 .f32) (o : Nat) (ho : o + 4 ≤ 8) (g : Fin 4) (e : Fin 64) (s : Fin 1024) :
    turnedAt m x o ho ⟨g.val * 64 + e.val, by omega⟩ s = ∑ d : Fin 64, r (ix2 e d) * x (ix3 ⟨o + g.val, by omega⟩ d s) := by
  unfold turnedAt
  rw [sum_blocks, Finset.sum_eq_single g]
  · refine Finset.sum_congr rfl fun d _ => ?_
    rw [hm, if_pos rfl]
    congr 3
    · apply Fin.ext; show o + (g.val * 64 + d.val) / 64 = o + g.val; omega
    · apply Fin.ext; show (g.val * 64 + d.val) % 64 = d.val; omega
  · intro h _ hne
    refine Finset.sum_eq_zero fun d _ => ?_
    rw [hm, if_neg (Ne.symm hne), zero_mul]
  · intro h; exact absurd (Finset.mem_univ _) h

/-- Turning back meets only a batch's own copy. -/
theorem back_eq (m : FVec Ideal S256x256 .f32) (r : FVec Ideal S64x64 .f32) (hm : Diagonal m r) (f : Fin 256 → EReal)
    (g : Fin 4) (d : Fin 64) :
    ∑ p : Fin 256, m (ix2 p ⟨g.val * 64 + d.val, by omega⟩) * f p = ∑ e : Fin 64, r (ix2 e d) * f ⟨g.val * 64 + e.val, by omega⟩ := by
  rw [sum_blocks, Finset.sum_eq_single g]
  · refine Finset.sum_congr rfl fun e _ => ?_
    rw [hm, if_pos rfl]
  · intro h _ hne
    refine Finset.sum_eq_zero fun e _ => ?_
    rw [hm, if_neg hne, zero_mul]
  · intro h; exact absurd (Finset.mem_univ _) h

/-- Batch `b` of a block of eight, quantised under the rotation `r`. -/
def quantised (cb : Fin 16 → EReal) (r : FVec Ideal S64x64 .f32) (x : FVec Ideal S8x64x1024 .f32) : FVec Ideal S8x64x1024 .f32 :=
  fun j => ∑ e : Fin 64, r (ix2 e (j 1)) * Quant.quant cb (∑ d : Fin 64, r (ix2 e d) * x (ix3 (j 0) d (j 2)))

/-- The choice among the scaled entries is the quantiser. -/
theorem choose_eq (cb : Fin 16 → EReal) (y : EReal) :
    choose (Quant.cell cb 0) (Quant.cell cb 1) (Quant.cell cb 2) (Quant.cell cb 3) (Quant.cell cb 4) (Quant.cell cb 5) (Quant.cell cb 6) (Quant.cell cb 7)
      (Quant.border (Quant.cell cb 0) (Quant.cell cb 1)) (Quant.border (Quant.cell cb 1) (Quant.cell cb 2)) (Quant.border (Quant.cell cb 2) (Quant.cell cb 3))
      (Quant.border (Quant.cell cb 3) (Quant.cell cb 4)) (Quant.border (Quant.cell cb 4) (Quant.cell cb 5)) (Quant.border (Quant.cell cb 5) (Quant.cell cb 6))
      (Quant.border (Quant.cell cb 6) (Quant.cell cb 7)) y = Quant.quant cb y := rfl

/-- The first group's output, batch by batch. -/
theorem first_quantised (cb : Fin 16 → EReal) (m : FVec Ideal S256x256 .f32) (r : FVec Ideal S64x64 .f32) (hm : Diagonal m r)
    (x : FVec Ideal S8x64x1024 .f32) (g : Fin 4) (d : Fin 64) (s : Fin 1024) :
    k0_pay27 (F := Ideal) m (Quant.cell cb 0) (Quant.cell cb 1) (Quant.cell cb 2) (Quant.cell cb 3) (Quant.cell cb 4) (Quant.cell cb 5) (Quant.cell cb 6) (Quant.cell cb 7)
      (Quant.border (Quant.cell cb 0) (Quant.cell cb 1)) (Quant.border (Quant.cell cb 1) (Quant.cell cb 2)) (Quant.border (Quant.cell cb 2) (Quant.cell cb 3))
      (Quant.cell cb 3 + Quant.cell cb 4) x (ix3 g d s) = quantised cb r x (ix3 ⟨g.val, by omega⟩ d s) := by
  rw [first_apply, back_eq m r hm]
  refine Finset.sum_congr rfl fun e _ => ?_
  rw [turnedAt_eq m r hm]
  simp only [Nat.zero_add]
  exact congrArg (r (ix2 e d) * ·) (choose_eq cb _)

/-- The second group's output, batch by batch. -/
theorem second_quantised (cb : Fin 16 → EReal) (m : FVec Ideal S256x256 .f32) (r : FVec Ideal S64x64 .f32) (hm : Diagonal m r)
    (x : FVec Ideal S8x64x1024 .f32) (g : Fin 4) (d : Fin 64) (s : Fin 1024) :
    k0_pay4 (F := Ideal) m (Quant.cell cb 0) (Quant.cell cb 1) (Quant.cell cb 2) (Quant.cell cb 3)
      (Quant.border (Quant.cell cb 0) (Quant.cell cb 1)) (Quant.border (Quant.cell cb 1) (Quant.cell cb 2)) (Quant.border (Quant.cell cb 2) (Quant.cell cb 3))
      (Quant.border (Quant.cell cb 3) (Quant.cell cb 4)) x
      (k0_pay3 (F := Ideal) m (Quant.cell cb 4) (Quant.cell cb 5) (Quant.cell cb 6) (Quant.cell cb 7) (Quant.border (Quant.cell cb 4) (Quant.cell cb 5))
        (Quant.border (Quant.cell cb 5) (Quant.cell cb 6)) (Quant.border (Quant.cell cb 6) (Quant.cell cb 7)) x) (ix3 g d s)
      = quantised cb r x (ix3 ⟨4 + g.val, by omega⟩ d s) := by
  rw [second_apply, back_eq m r hm]
  refine Finset.sum_congr rfl fun e _ => ?_
  rw [turnedAt_eq m r hm]
  exact congrArg (r (ix2 e d) * ·) (choose_eq cb _)

end Cert.KernelIdeal.Value

end
-- ==== Proof.KernBlock.lean ====
module

public import proofs.«01_k».proof.Proof.Block
public import proofs.«01_k».proof.Proof.Gen.KernelIdeal.Frame
public import Idealize.ShloMosaic.Lib.Pipeline.Value
public import Idealize.ShloMosaic.Lib.Tactic

/-!
What a grid point leaves behind: in the output's buffer the eight batches of its block quantised, and in the
carried matrix four copies of the rotation along the diagonal.
-/

@[expose] public section

set_option maxRecDepth 16384

noncomputable section

open Idealize.ShloMosaic Idealize.ShloMosaic.TcCoe Idealize.SL.Sem

namespace Cert.KernelIdeal.Value

open Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- The codebook in its block of one row. -/
def bookOf (x : FVec Ideal S1x16 .f32) : Fin 16 → EReal := fun j => x (ix2 0 j)

/-- One word of the codebook's row. -/
theorem word_eq (x : Vec Ideal S1x16 .f32) (j : Nat) (hj : j < 16) (inb) (h0) :
    View.ld x (Rect.unit (s := S1x16) ![0, j] ![1, 1] inb) (Shape.Idx.first h0) = x (ix2 0 ⟨j, hj⟩) := by
  show x _ = _
  congr 1
  funext a
  apply Fin.ext
  match a with
  | ⟨0, _⟩ => rfl
  | ⟨1, _⟩ => rfl

/-- A block loaded and handed on whole. -/
theorem whole_eq (x : Vec Ideal S8x64x1024 .f32) : k0_pay26 (F := Ideal) x = x := shapeCast_self x _

/-- Where an index of the first group's half lies. -/
theorem first_emb (inb) (g : Fin 4) (d : Fin 64) (s : Fin 1024) :
    (Rect.unit (s := S8x64x1024) ![0, 0, 0] ![4, 64, 1024] inb).emb (ix3 g d s) = ix3 ⟨g.val, by omega⟩ d s := by
  funext a
  apply Fin.ext
  match a with
  | ⟨0, _⟩ => show 0 + 1 * g.val = g.val; omega
  | ⟨1, _⟩ => show 0 + 1 * d.val = d.val; omega
  | ⟨2, _⟩ => show 0 + 1 * s.val = s.val; omega

/-- Where an index of the second group's half lies. -/
theorem second_emb (inb) (g : Fin 4) (d : Fin 64) (s : Fin 1024) :
    (Rect.unit (s := S8x64x1024) ![4, 0, 0] ![4, 64, 1024] inb).emb (ix3 g d s) = ix3 ⟨4 + g.val, by omega⟩ d s := by
  funext a
  apply Fin.ext
  match a with
  | ⟨0, _⟩ => show 4 + 1 * g.val = 4 + g.val; omega
  | ⟨1, _⟩ => show 0 + 1 * d.val = d.val; omega
  | ⟨2, _⟩ => show 0 + 1 * s.val = s.val; omega

/-- One copy of the rotation laid over a matrix. -/
theorem canon_copy (o : Nat) (inb) (w : FVec Ideal S64x64 .f32) (L : List (View.Piece (Elt Ideal) S256x256 .f32)) (p q : Fin 256) :
    View.canon ((⟨Rect.unit ![o, o] ![64, 64] inb, w⟩ : View.Piece (Elt Ideal) S256x256 .f32) :: L) (ix2 p q)
      = if h : (o ≤ p.val ∧ p.val < o + 64) ∧ o ≤ q.val ∧ q.val < o + 64 then
          w (ix2 ⟨p.val - o, by omega⟩ ⟨q.val - o, by omega⟩) else View.canon L (ix2 p q) := by
  split
  · rename_i h
    rw [← View.canon_cons_emb (Val := Elt Ideal) (Rect.unit ![o, o] ![64, 64] inb) w L]
    congr 1
    funext a
    apply Fin.ext
    match a with
    | ⟨0, _⟩ => show p.val = o + 1 * (p.val - o); omega
    | ⟨1, _⟩ => show q.val = o + 1 * (q.val - o); omega
  · rename_i h
    refine View.canon_cons_of_not_mem _ _ ?_
    rw [Rect.mem_set_unit]
    intro ha
    exact h ⟨ha 0, ha 1⟩

/-- The five stores that lay the matrix out, the last first: four copies of the rotation over a matrix of zeros. -/
abbrev copies (r : FVec Ideal S64x64 .f32) : List (View.Piece (Elt Ideal) S256x256 .f32) :=
  [⟨Rect.unit ![192, 192] ![64, 64] inb_S256x256_S64x64_192_192, k0_pay9 (F := Ideal) r⟩,
    ⟨Rect.unit ![128, 128] ![64, 64] inb_S256x256_S64x64_128_128, k0_pay8 (F := Ideal) r⟩,
    ⟨Rect.unit ![64, 64] ![64, 64] inb_S256x256_S64x64_64_64, k0_pay7 (F := Ideal) r⟩,
    ⟨Rect.unit ![0, 0] ![64, 64] inb_S256x256_S64x64_0_0, k0_pay6 (F := Ideal) r⟩,
    ⟨Rect.unit ![0, 0] ![256, 256] inb_S256x256_S256x256_0_0, k0_pay5 (F := Ideal)⟩]

/-- Four copies of the rotation laid along the diagonal of a matrix of zeros. -/
theorem diagonal_canon (r : FVec Ideal S64x64 .f32) : Diagonal (View.canon (copies r)) r := by
  have h6 : k0_pay6 (F := Ideal) r = r := shapeCast_self r _
  have h7 : k0_pay7 (F := Ideal) r = r := shapeCast_self r _
  have h8 : k0_pay8 (F := Ideal) r = r := shapeCast_self r _
  have h9 : k0_pay9 (F := Ideal) r = r := shapeCast_self r _
  have h5 : ∀ p q : Fin 256, k0_pay5 (F := Ideal) (ix2 p q) = 0 := fun p q => by
    pointwise [k0_pay5]
  intro g h e d
  unfold copies
  rw [h6, h7, h8, h9, canon_copy, canon_copy, canon_copy, canon_copy, View.canon_unit_zero (S := S256x256) hz2, h5]
  have hr : ∀ a b : Fin 64, a = e → b = d → r (ix2 a b) = r (ix2 e d) := by rintro _ _ rfl rfl; rfl
  rcases eq_or_ne g h with rfl | hne
  · rw [if_pos rfl]
    dsimp only
    split_ifs
    all_goals first
      | (refine hr _ _ ?_ ?_ <;> (apply Fin.ext; dsimp only; omega))
      | (exfalso; omega)
  · rw [if_neg hne]
    have hne' : g.val ≠ h.val := fun hv => hne (Fin.ext hv)
    split_ifs
    all_goals first
      | rfl
      | (exfalso; dsimp only at *; omega)

/-- The same matrix read back in one piece. -/
theorem diagonal_readCov (v : View sig .tc .vmem S256x256 .f32) (r : FVec Ideal S64x64 .f32) :
    Diagonal (v.readCov (copies r) (Rect.unit (s := S256x256) ![0, 0] ![256, 256] inb_S256x256_S256x256_0_0).toLoadRect) r := by
  have hcov : ∀ y : S256x256.Idx, ∃ p ∈ copies r, y ∈ p.1.set := fun y =>
    ⟨⟨Rect.unit ![0, 0] ![256, 256] inb_S256x256_S256x256_0_0, k0_pay5 (F := Ideal)⟩,
      List.mem_cons_of_mem _ (List.mem_cons_of_mem _ (List.mem_cons_of_mem _ (List.mem_cons_of_mem _ List.mem_cons_self))),
      View.mem_set_unit_zero (S := S256x256) hz2 inb_S256x256_S256x256_0_0 y⟩
  have hread := View.readCov_eq_canon_ld v (copies r) (Rect.unit (s := S256x256) ![0, 0] ![256, 256] inb_S256x256_S256x256_0_0) hcov
  have hwhole := View.ld_unit_zero (S := S256x256) hz2 inb_S256x256_S256x256_0_0 (View.canon (copies r))
  have hd := diagonal_canon r
  generalize View.canon (copies r) = m at hread hwhole hd
  rw [← hwhole] at hd
  exact hread ▸ hd

/-- At a later point the output's buffer ends with the block quantised, if the carried matrix is diagonal. -/
theorem out_B (c : Dev nD) (i : grid0.Coords) (a1 : Memref sig .tc .smem S1x16 .f32) (h1 : a1.IsWhole)
    (a2 : Memref sig .tc .vmem S8x64x1024 .f32) (h2 : a2.IsWhole) (a3 : Memref sig .tc .vmem S64x64 .f32) (h3 : a3.IsWhole)
    (a4 : Memref sig .tc .vmem S8x64x1024 .f32) (h4 : a4.IsWhole) (a5 : Memref sig .tc .vmem S256x256 .f32) (h5 : a5.IsWhole)
    (hc : ¬cond0_0 i) (x0 : Vec Ideal S1x16 .f32) (x1 : Vec Ideal S8x64x1024 .f32) (x2 : Vec Ideal S64x64 .f32) (xs : Vec Ideal S256x256 .f32)
    (r : FVec Ideal S64x64 .f32) (hm : Diagonal xs r) :
    out0_B_3 c i a1 h1 a2 h2 a3 h3 a4 h4 a5 h5 hc x0 x1 x2 xs = quantised (bookOf x0) r x1 := by
  unfold out0_B_3
  rw [View.read_writes_eq_canon _ _ _ (cover0_B_3 c i a1 h1 a2 h2 a3 h3 a4 h4 a5 h5 hc x0 x1 x2 xs)]
  funext y
  refine View.canon_apply_of_pieces (quantised (bookOf x0) r x1) _ ?_ y (cover0_B_3 c i a1 h1 a2 h2 a3 h3 a4 h4 a5 h5 hc x0 x1 x2 xs y)
  unfold kernelRun0_B
  dsimp only
  sl_unfold_words
  rw [List.forall_mem_cons, List.forall_mem_cons]
  simp only [View.readAt_eq_ld, h1.read_unread, h2.read_unread, h3.read_unread, h5.read_unread,
    View.ld_unit_zero (S := S256x256) hz2, View.ld_unit_zero (S := S8x64x1024) hz3]
  refine ⟨fun x => ?_, fun x => ?_, List.forall_mem_nil _⟩
  · obtain ⟨g, d, s, rfl⟩ : ∃ (g : Fin 4) (d : Fin 64) (s : Fin 1024), x = ix3 g d s := ⟨x 0, x 1, x 2, eq_ix3 x⟩
    rw [second_emb]
    have := second_quantised (bookOf x0) xs r hm x1 g d s
    rw [whole_eq, word_eq x0 8 (by decide), word_eq x0 9 (by decide), word_eq x0 10 (by decide), word_eq x0 11 (by decide),
      word_eq x0 12 (by decide), word_eq x0 13 (by decide), word_eq x0 14 (by decide), word_eq x0 15 (by decide)]
    exact this
  · obtain ⟨g, d, s, rfl⟩ : ∃ (g : Fin 4) (d : Fin 64) (s : Fin 1024), x = ix3 g d s := ⟨x 0, x 1, x 2, eq_ix3 x⟩
    rw [first_emb, word_eq x0 8 (by decide), word_eq x0 9 (by decide), word_eq x0 10 (by decide), word_eq x0 11 (by decide),
      word_eq x0 12 (by decide), word_eq x0 13 (by decide), word_eq x0 14 (by decide), word_eq x0 15 (by decide)]
    exact first_quantised (bookOf x0) xs r hm x1 g d s

/-- The first point leaves the carried matrix diagonal. -/
theorem sout_A (c : Dev nD) (i : grid0.Coords) (a1 : Memref sig .tc .smem S1x16 .f32) (h1 : a1.IsWhole)
    (a2 : Memref sig .tc .vmem S8x64x1024 .f32) (h2 : a2.IsWhole) (a3 : Memref sig .tc .vmem S64x64 .f32) (h3 : a3.IsWhole)
    (a4 : Memref sig .tc .vmem S8x64x1024 .f32) (h4 : a4.IsWhole) (a5 : Memref sig .tc .vmem S256x256 .f32) (h5 : a5.IsWhole)
    (hc : cond0_0 i) (x0 : Vec Ideal S1x16 .f32) (x1 : Vec Ideal S8x64x1024 .f32) (x2 : Vec Ideal S64x64 .f32) :
    Diagonal (sout0_A_0 c i a1 h1 a2 h2 a3 h3 a4 h4 a5 h5 hc x0 x1 x2) x2 := by
  unfold sout0_A_0
  rw [View.read_writes_eq_canon _ _ _ (scover0_A_0 c i a1 h1 a2 h2 a3 h3 a4 h4 a5 h5 hc x0 x1 x2)]
  unfold kernelRun0_A
  dsimp only
  sl_unfold_words
  simp only [View.readAt_eq_ld, h3.read_unread, View.ld_unit_zero (S := S64x64) hz2]
  exact diagonal_canon x2

/-- At the first point the output's buffer ends with the block quantised. -/
theorem out_A (c : Dev nD) (i : grid0.Coords) (a1 : Memref sig .tc .smem S1x16 .f32) (h1 : a1.IsWhole)
    (a2 : Memref sig .tc .vmem S8x64x1024 .f32) (h2 : a2.IsWhole) (a3 : Memref sig .tc .vmem S64x64 .f32) (h3 : a3.IsWhole)
    (a4 : Memref sig .tc .vmem S8x64x1024 .f32) (h4 : a4.IsWhole) (a5 : Memref sig .tc .vmem S256x256 .f32) (h5 : a5.IsWhole)
    (hc : cond0_0 i) (x0 : Vec Ideal S1x16 .f32) (x1 : Vec Ideal S8x64x1024 .f32) (x2 : Vec Ideal S64x64 .f32) :
    out0_A_3 c i a1 h1 a2 h2 a3 h3 a4 h4 a5 h5 hc x0 x1 x2 = quantised (bookOf x0) x2 x1 := by
  unfold out0_A_3
  rw [View.read_writes_eq_canon _ _ _ (cover0_A_3 c i a1 h1 a2 h2 a3 h3 a4 h4 a5 h5 hc x0 x1 x2)]
  funext y
  refine View.canon_apply_of_pieces (quantised (bookOf x0) x2 x1) _ ?_ y (cover0_A_3 c i a1 h1 a2 h2 a3 h3 a4 h4 a5 h5 hc x0 x1 x2 y)
  unfold kernelRun0_A
  dsimp only
  sl_unfold_words
  rw [List.forall_mem_cons, List.forall_mem_cons]
  simp only [View.readAt_eq_ld, h1.read_unread, h2.read_unread, h3.read_unread,
    View.ld_unit_zero (S := S64x64) hz2, View.ld_unit_zero (S := S8x64x1024) hz3]
  refine ⟨fun x => ?_, fun x => ?_, List.forall_mem_nil _⟩
  · obtain ⟨g, d, s, rfl⟩ : ∃ (g : Fin 4) (d : Fin 64) (s : Fin 1024), x = ix3 g d s := ⟨x 0, x 1, x 2, eq_ix3 x⟩
    rw [second_emb, whole_eq, word_eq x0 8 (by decide), word_eq x0 9 (by decide), word_eq x0 10 (by decide), word_eq x0 11 (by decide),
      word_eq x0 12 (by decide), word_eq x0 13 (by decide), word_eq x0 14 (by decide), word_eq x0 15 (by decide)]
    exact second_quantised (bookOf x0) _ x2 (diagonal_readCov a5.view x2) x1 g d s
  · obtain ⟨g, d, s, rfl⟩ : ∃ (g : Fin 4) (d : Fin 64) (s : Fin 1024), x = ix3 g d s := ⟨x 0, x 1, x 2, eq_ix3 x⟩
    rw [first_emb, word_eq x0 8 (by decide), word_eq x0 9 (by decide), word_eq x0 10 (by decide), word_eq x0 11 (by decide),
      word_eq x0 12 (by decide), word_eq x0 13 (by decide), word_eq x0 14 (by decide), word_eq x0 15 (by decide)]
    exact first_quantised (bookOf x0) _ x2 (diagonal_readCov a5.view x2) x1 g d s

end Cert.KernelIdeal.Value

end
-- ==== Proof.Kern.lean ====
module

public import proofs.«01_k».proof.Proof.KernBlock
public import Idealize.ShloMosaic.Lib.Quiescent

/-!
What the kernel's result array holds: the carried matrix stays diagonal from point to point, each point writes
its own eight batches, and the last host operation swaps the two inner axes back.
-/

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ) (ρ : Dev nD → PrngReg)

/-- The arguments, as arrays. -/
abbrev xOf (c : Dev nD) : FVec Ideal S32x1024x64 .f32 := m ((c : Thread nD τ).loc main_arg0)
abbrev rotOf (c : Dev nD) : FVec Ideal S64x64 .f32 := m ((c : Thread nD τ).loc main_arg1)
abbrev cbOf (c : Dev nD) : FVec Ideal S16 .f32 := m ((c : Thread nD τ).loc main_arg2)

/-- The codebook as the region finds it: one row. -/
theorem V_book (c : Dev nD) (j : Fin 16) : (V m c main_v0 : FVec Ideal S1x16 .f32) (ix2 0 j) = cbOf m c (ix1 j) := by
  have h : (V m c main_v0 : FVec Ideal S1x16 .f32) = shapeCast S1x16 (cbOf m c) shapeCasts_S16_S1x16 := by
    show StableHlo.after (List.flatten [hostOps0]) (fun b => m (c, b)) (Proc.devRef .tc main_v0) = _
    simp only [hostOps0, List.flatten_cons, List.flatten_nil, List.append_nil]
    after_results_simp
    rfl
  rw [h]
  pointwise

/-- The input as the region finds it: the two inner axes swapped. -/
theorem V_x (c : Dev nD) (b : Fin 32) (d : Fin 64) (s : Fin 1024) :
    (V m c main_v1 : FVec Ideal S32x64x1024 .f32) (ix3 b d s) = xOf m c (ix3 b s d) := by
  have h : (V m c main_v1 : FVec Ideal S32x64x1024 .f32) = transpose S32x64x1024 [0, 2, 1] (xOf m c) transposes_S32x1024x64_S32x64x1024_0_2_1 := by
    show StableHlo.after (List.flatten [hostOps0]) (fun b => m (c, b)) (Proc.devRef .tc main_v1) = _
    simp only [hostOps0, List.flatten_cons, List.flatten_nil, List.append_nil]
    after_results_simp
  rw [h]
  pointwise

/-- The codebook's block is its array. -/
theorem iblk_0 (c : Dev nD) (t : Fin cfg0.N) (j : Fin 16) : (iblk m c 0 t : FVec Ideal S1x16 .f32) (ix2 0 j) = cbOf m c (ix1 j) := by
  have hi : win0_0.index t 0 = 0 ∧ win0_0.index t 1 = 0 := by
    rcases fin_N0 t with rfl | rfl | rfl | rfl <;> decide
  rw [← V_book]
  unfold iblk
  rw [View.read_apply]
  show V m c main_v0 _ = V m c main_v0 _
  congr 1
  funext a
  apply Fin.ext
  match a with
  | ⟨0, _⟩ => show win0_0.index t 0 * 1 + 1 * 0 = 0; rw [hi.1]
  | ⟨1, _⟩ => show win0_0.index t 1 * 16 + 1 * j.val = j.val; rw [hi.2]; omega

/-- Point `t`'s block of the input: batches `8t` to `8t + 7`. -/
theorem iblk_1 (c : Dev nD) (t : Fin cfg0.N) (ht : t.val < 4) (b : Fin 8) (d : Fin 64) (s : Fin 1024) :
    (iblk m c 1 t : FVec Ideal S8x64x1024 .f32) (ix3 b d s) = xOf m c (ix3 ⟨8 * t.val + b.val, by omega⟩ s d) := by
  have hi : win0_1.index t 0 = t.val ∧ win0_1.index t 1 = 0 ∧ win0_1.index t 2 = 0 := by
    rcases fin_N0 t with rfl | rfl | rfl | rfl <;> decide
  rw [← V_x]
  unfold iblk
  rw [View.read_apply]
  show V m c main_v1 _ = V m c main_v1 _
  congr 1
  funext a
  apply Fin.ext
  match a with
  | ⟨0, _⟩ => show win0_1.index t 0 * 8 + 1 * b.val = 8 * t.val + b.val; rw [hi.1]; omega
  | ⟨1, _⟩ => show win0_1.index t 1 * 64 + 1 * d.val = d.val; rw [hi.2.1]; omega
  | ⟨2, _⟩ => show win0_1.index t 2 * 1024 + 1 * s.val = s.val; rw [hi.2.2]; omega

/-- The rotation's block is its array. -/
theorem iblk_2 (c : Dev nD) (t : Fin cfg0.N) : (iblk m c 2 t : FVec Ideal S64x64 .f32) = rotOf m c := by
  have hi : win0_2.index t 0 = 0 ∧ win0_2.index t 1 = 0 := by
    rcases fin_N0 t with rfl | rfl | rfl | rfl <;> decide
  funext j
  rw [show rotOf m c = V m c main_arg1 from (V_main_arg1 m c).symm]
  unfold iblk
  rw [View.read_apply]
  show V m c main_arg1 _ = V m c main_arg1 _
  congr 1
  funext a
  apply Fin.ext
  match a with
  | ⟨0, _⟩ => show win0_2.index t 0 * 64 + 1 * (j 0).val = (j 0).val; rw [hi.1]; omega
  | ⟨1, _⟩ => show win0_2.index t 1 * 64 + 1 * (j 1).val = (j 1).val; rw [hi.2]; omega

/-- After every point the carried matrix is diagonal. -/
theorem carried (c : Dev nD) : ∀ (n : ℕ) (h : n < cfg0.N), Diagonal (outsAt0 m c n h).2 (rotOf m c)
  | 0, h => by
    have h2 := congrArg Prod.snd (outsAt0_A m c ⟨0, h⟩ rfl)
    dsimp only at h2
    have := sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      (ms0_3 ⟨0, h⟩) (hs0_3 ⟨0, h⟩) scM0_0 (Memref.isWhole_whole _) ((hcond0_0 ⟨0, h⟩).mpr rfl)
      (iblk m c 0 ⟨0, h⟩) (iblk m c 1 ⟨0, h⟩) (iblk m c 2 ⟨0, h⟩)
    rw [← h2, iblk_2] at this
    exact this
  | n + 1, h => by
    have hN : cfg0.N = 4 := N_0
    have hB : ¬(⟨n + 1, h⟩ : Fin cfg0.N).val % 4 = 0 := by dsimp only; omega
    have h2 := congrArg Prod.snd (outsAt0_B m c ⟨n + 1, h⟩ hB)
    dsimp only at h2
    unfold sout0_B_0 at h2
    rw [h2]
    exact carried c n (Nat.lt_of_succ_lt h)

/-- After every point the output's buffer holds its block quantised. -/
theorem written (c : Dev nD) (t : Fin cfg0.N) :
    (outsAt0 m c t.val t.isLt).1 = quantised (bookOf (iblk m c 0 t)) (rotOf m c) (iblk m c 1 t) := by
  by_cases h0 : t.val % 4 = 0
  · rw [outsAt0_A m c t h0]
    dsimp only
    rw [out_A, iblk_2]
  · rw [outsAt0_B m c t h0]
    dsimp only
    exact out_B _ _ _ _ _ _ _ _ _ _ _ _ _ _ _ _ _ _ (carried m c _ _)

/-- The array the region leaves: every batch quantised, the two inner axes swapped. -/
def result2 (c : Dev nD) : FVec Ideal S32x64x1024 .f32 := fun j =>
  ∑ e : Fin 64, rotOf m c (ix2 e (j 1)) * Quant.quant (fun k => cbOf m c (ix1 k))
    (∑ d : Fin 64, rotOf m c (ix2 e d) * xOf m c (ix3 (j 0) (j 2) d))

/-- Each point writes its own batches of it. -/
theorem flushed_eq (c : Dev nD) (t : Fin cfg0.N) (hf : (cfg0.win 3).flush t = true) :
    (dats m 0 c).flushed 3 t = ((cfg0.win 3).blk t).view.read (Elt Ideal) (result2 m c) := by
  have hN : cfg0.N = 4 := N_0
  have ht : t.val < 4 := by have := t.isLt; omega
  have hi : win0_3.index t 0 = t.val ∧ win0_3.index t 1 = 0 ∧ win0_3.index t 2 = 0 := by
    rcases fin_N0 t with rfl | rfl | rfl | rfl <;> decide
  show (cfg0.win 3).cut (grid0.coords t) ((dats m 0 c).after 3 t) = _
  rw [after0_3, written]
  funext j
  obtain ⟨b, d, s, rfl⟩ : ∃ (b : Fin 8) (d : Fin 64) (s : Fin 1024), j = ix3 b d s := ⟨j 0, j 1, j 2, eq_ix3 j⟩
  rw [View.read_apply]
  have he : ((cfg0.win 3).blk t).view.emb (ix3 b d s) = (ix3 ⟨8 * t.val + b.val, by omega⟩ d s : S32x64x1024.Idx) := by
    funext a
    apply Fin.ext
    match a with
    | ⟨0, _⟩ => show win0_3.index t 0 * 8 + 1 * b.val = 8 * t.val + b.val; rw [hi.1]; omega
    | ⟨1, _⟩ => show win0_3.index t 1 * 64 + 1 * d.val = d.val; rw [hi.2.1]; omega
    | ⟨2, _⟩ => show win0_3.index t 2 * 1024 + 1 * s.val = s.val; rw [hi.2.2]; omega
  rw [he]
  have hb : bookOf (iblk m c 0 t) = fun k => cbOf m c (ix1 k) := by
    funext k
    exact iblk_0 m c t k
  show quantised (bookOf (iblk m c 0 t)) (rotOf m c) (iblk m c 1 t) (ix3 b d s) = result2 m c (ix3 ⟨8 * t.val + b.val, by omega⟩ d s)
  rw [hb]
  unfold quantised result2
  refine Finset.sum_congr rfl fun e _ => ?_
  refine congrArg (fun z => rotOf m c (ix2 e d) * Quant.quant (fun k => cbOf m c (ix1 k)) z) ?_
  refine Finset.sum_congr rfl fun k _ => ?_
  exact congrArg (fun z => rotOf m c (ix2 e k) * z) (iblk_1 m c t ht b k s)

/-- What the call leaves in its result array: the blocks of the four grid points lie side by side along the batches and cover it. -/
theorem final_o (c : Dev nD) : (dats m 0 c).arrAt 3 cfg0.N = result2 m c :=
  (dats m 0 c).arrAt_eq_of_cover 3 (result2 m c) (flushed_eq m c) fun i => by
    have hN : cfg0.N = 4 := rfl
    have h0 : (i 0).val < 32 := (i 0).isLt
    have h1 : (i 1).val < 64 := (i 1).isLt
    have h2 : (i 2).val < 1024 := (i 2).isLt
    have hi : ∀ t : Fin cfg0.N, win0_3.index t 0 = t.val ∧ win0_3.index t 1 = 0 ∧ win0_3.index t 2 = 0 := by decide +kernel
    have hx : ∀ t : Fin cfg0.N, win0_3.xsize (grid0.coords t) 0 = 8 ∧ win0_3.xsize (grid0.coords t) 1 = 64 ∧ win0_3.xsize (grid0.coords t) 2 = 1024 := by decide +kernel
    have ht : (i 0).val / 8 < cfg0.N := by omega
    have hit := hi ⟨(i 0).val / 8, ht⟩
    have hxt := hx ⟨(i 0).val / 8, ht⟩
    dsimp only at hit
    refine ⟨⟨(i 0).val / 8, ht⟩, flush0_3 _, ?_⟩
    show i ∈ ((View.whole main_v2).slice (win0_3.rect ⟨(i 0).val / 8, ht⟩)).set
    rw [View.set_slice_whole, Rect.mem_set_unit]
    intro a
    match a with
    | ⟨0, _⟩ =>
      show win0_3.index _ 0 * 8 ≤ (i 0).val ∧ (i 0).val < win0_3.index _ 0 * 8 + win0_3.xsize _ 0
      rw [hit.1, hxt.1]; omega
    | ⟨1, _⟩ =>
      show win0_3.index _ 1 * 64 ≤ (i 1).val ∧ (i 1).val < win0_3.index _ 1 * 64 + win0_3.xsize _ 1
      rw [hit.2.1, hxt.2.1]; omega
    | ⟨2, _⟩ =>
      show win0_3.index _ 2 * 1024 ≤ (i 2).val ∧ (i 2).val < win0_3.index _ 2 * 1024 + win0_3.xsize _ 2
      rw [hit.2.2, hxt.2.2]; omega

/-- What the kernel's program returns: the call's result with its last two axes changed over. -/
def result (c : Dev nD) : FVec Ideal S32x1024x64 .f32 :=
  transpose S32x1024x64 [0, 2, 1] (result2 m c) transposes_S32x64x1024_S32x1024x64_0_2_1

/-- An entry of the returned array. -/
theorem result_apply (c : Dev nD) (b : Fin 32) (s : Fin 1024) (d : Fin 64) :
    result m c (ix3 b s d) = ∑ e, rotOf m c (ix2 e d) * Quant.quant (fun k => cbOf m c (ix1 k)) (∑ k, rotOf m c (ix2 e k) * xOf m c (ix3 b s k)) := by
  have h : result m c (ix3 b s d) = result2 m c (ix3 b d s) := by
    unfold result
    pointwise
  rw [h]
  rfl

/-- The array the program returns, after the operations behind the call. -/
theorem returned (c : Dev nD) : Pipeline.afterTail₀ cfgs (dats m) 0 (V0 m) [hostOps1] c main_v3 = result m c := by
  have hw : Pipeline.withArrays cfg0.spec c (V0 m c) (fun w => (dats m 0 c).arrAt w cfg0.N) (Proc.devRef .tc main_v2) = result2 m c :=
    (Pipeline.withArrays_arr cfg0.spec winFacts0.arr_inj c (V0 m c) (fun w => (dats m 0 c).arrAt w cfg0.N) 3).trans (final_o m c)
  unfold Pipeline.afterTail₀
  show StableHlo.after (List.flatten [hostOps1]) (Pipeline.withArrays cfg0.spec c (V0 m c) fun w => (dats m 0 c).arrAt w cfg0.N) (Proc.devRef .tc main_v3) = _
  unfold result
  rw [← hw]
  generalize Pipeline.withArrays cfg0.spec c (V0 m c) (fun w => (dats m 0 c).arrAt w cfg0.N) = W
  simp only [hostOps1, List.flatten_cons, List.flatten_nil, List.append_nil]
  after_results_simp

/-- Every run of the kernel's program leaves `result` in the array it returns and its arguments as they were. -/
theorem run : θ_run (defs (F := Ideal)) (onTc (τ := τ) (main (F := Ideal))) ⟨m, fun _ => 0, ρ⟩ fun r => ∀ c : Dev nD,
    r.2.mem ((c.tc : Thread nD τ).loc main_v3) = result m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono
    (fun _ h c => ⟨((h.1 c).2 main_v3 (Pipeline.mem_restRefs_of main_v3 (by decide) (by decide))).trans (returned m c), h.2 c⟩)
    (θ_run_and (run_main m ρ) (unchanged m ρ))

end Cert.KernelIdeal.Value

end
-- ==== Proof.RefRun.lean ====
module

public import proofs.«01_k».proof.ReferenceIdeal
public import proofs.«01_k».proof.Defs
public import proofs.«01_k».proof.Proof.Gen.ReferenceIdeal
public import Idealize.ShloMosaic.Lib.StableHlo.Run
public import Idealize.ShloMosaic.Lib.Claim

/-!
The reference is a straight line of host operations once its three private functions (the argument of the
smallest entry, the table look-up and the look-up's select) are written where they are called.  This module
lists those operations, shows that the program is that list, and names what each buffer of interest holds
when the line ends.
-/

@[expose] public section

set_option maxRecDepth 65536

noncomputable section

open Idealize.ShloMosaic Idealize.ShloMosaic.TcCoe Idealize.SL.Sem
open Idealize.ShloMosaic.StableHlo

namespace Cert.ReferenceIdeal.Value

open Cert.ReferenceIdeal Cert.ReferenceIdeal.Gen

variable {F : FTy → Type} [FloatOps F]

/-- The reference's operations in program order, the three private functions written at their calls. -/
def ops : List (HloOp τ sig (Elt F)) :=
  [ StableHlo.reshape main_arg0 main_v0 (rfl : (.f32 : EltTy) = .f32) shapeCasts_S32x1024x64_S32768x64,
    unary main_arg1 main_v1 (transpose S64x64 [1, 0] · transposes_S64x64_S64x64_1_0),
    binary main_v0 main_v1 main_v2 (fun l r => Host.dotGeneral dot_S32768x64_S64x64_S32768x64_1_0_0_1_n_n none l r),
    nullary main_cst (constant S_ .f32 0x3E000000#32),
    unary main_cst main_v3 (broadcastInDim S32768x64 ![] bcast_S_S32768x64),
    binary main_v2 main_v3 main_v4 Host.divf,
    unary main_v4 main_v5 (broadcastInDim S32768x64x1 ![0, 1] bcast_S32768x64_S32768x64x1_0_1),
    unary main_arg2 main_v6 (broadcastInDim S1x1x16 ![2] bcast_S16_S1x1x16_2),
    unary main_v5 main_v7 (broadcastInDim S32768x64x16 ![0, 1, 2] bcast_S32768x64x1_S32768x64x16_0_1_2),
    unary main_v6 main_v8 (broadcastInDim S32768x64x16 ![0, 1, 2] bcast_S1x1x16_S32768x64x16_0_1_2),
    binary main_v7 main_v8 main_v9 subf,
    unary main_v9 main_v10 Host.absf,
    TRef.nullary main_call0.v0 (iotaInDim S32768x64x16 32 2),
    TRef.nullary main_call0.cst (constant S_ .f32 0x7F800000#32),
    TRef.nullary main_call0.c (constantI S_ 32 0#32),
    TRef.quaternary (.of main_v10 : TRef sig ⟨S32768x64x16, .f32⟩) main_call0.v0 main_call0.cst main_call0.c main_call0.v1_0
      (fun x y u v j => (Host.argReduce reducer_argmin_f32_i32 x y u v reducesTo_S32768x64x16_S32768x64_d2 h_S_ j).1),
    TRef.quaternary (.of main_v10 : TRef sig ⟨S32768x64x16, .f32⟩) main_call0.v0 main_call0.cst main_call0.c main_call0.v1_1
      (fun x y u v j => (Host.argReduce reducer_argmin_f32_i32 x y u v reducesTo_S32768x64x16_S32768x64_d2 h_S_ j).2),
    TRef.nullary main_call1.c (constantI S_ 32 0#32),
    TRef.unary main_call1.c main_call1.v0 (broadcastInDim S32768x64 ![] bcast_S_S32768x64),
    TRef.binary main_call0.v1_1 main_call1.v0 main_call1.v1 (cmpi .slt),
    TRef.nullary main_call1.c_0 (constantI S_ 32 16#32),
    TRef.unary main_call1.c_0 main_call1.v2 (broadcastInDim S32768x64 ![] bcast_S_S32768x64),
    TRef.binary main_call0.v1_1 main_call1.v2 main_call1.v3 addi,
    TRef.ternary main_call1.v1 main_call1.v3 main_call0.v1_1 main_call1.call0.v0 select,
    TRef.unary main_call1.call0.v0 main_call1.v5 (broadcastInDim S32768x64x1 ![0, 1] bcast_S32768x64_S32768x64x1_0_1),
    TRef.nullary main_call1.c_1 (constantI S1 32 15#32),
    TRef.nullary main_call1.c_2 (constantI S_ 32 0#32),
    TRef.unary main_call1.c_2 main_call1.v6 (broadcastInDim S32768x64x1 ![] bcast_S_S32768x64x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S32768x64x1 ![0, 1, 2] bcast_S1x1x1_S32768x64x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12
      (fun x v => Host.reduce IntOp.andi x v reducesTo_S32768x64x1_S32768x64_d2 h_S_),
    TRef.binary (.of main_arg2 : TRef sig ⟨S16, .f32⟩) main_call1.v5 main_call1.v13
      (fun x i => Host.gather gather_S16_S32768x64x1_S32768x64_n_0_n_n_0_2_1 x i),
    TRef.nullary main_call1.cst (constant S_ .f32 0x7FC00000#32),
    TRef.unary main_call1.cst main_call1.v14 (broadcastInDim S32768x64 ![] bcast_S_S32768x64),
    TRef.ternary main_call1.v12 main_call1.v13 main_call1.v14 main_call1.v15 select,
    nullary main_cst_0 (constant S_ .f32 0x3E000000#32),
    unary main_cst_0 main_v13 (broadcastInDim S32768x64 ![] bcast_S_S32768x64),
    binary main_v12 main_v13 main_v14 mulf,
    binary main_v14 main_arg1 main_v15 (fun l r => Host.dotGeneral dot_S32768x64_S64x64_S32768x64_1_0_0_1_n_n none l r),
    StableHlo.reshape main_v15 main_v16 (rfl : (.f32 : EltTy) = .f32) shapeCasts_S32768x64_S32x1024x64 ]

/-- The program is that line: its calls unfolded, its statements re-associated. -/
theorem main_eq (c : Dev nD) : main (F := F) c = seq ops := by
  simp only [main, fn_argmin.body, fn_take.body, fn_where.body, ops, seq, bind_assoc, pure_bind]
  rfl

/-- The rotated vectors in units of the scale. -/
def yNorm (x : (⟨S32x1024x64, .f32⟩ : BufTy).Contents (Elt F)) (r : (⟨S64x64, .f32⟩ : BufTy).Contents (Elt F)) :
    (⟨S32768x64, .f32⟩ : BufTy).Contents (Elt F) :=
  Host.divf
    (Host.dotGeneral dot_S32768x64_S64x64_S32768x64_1_0_0_1_n_n none
      (shapeCast S32768x64 x shapeCasts_S32x1024x64_S32768x64)
      (transpose S64x64 [1, 0] r transposes_S64x64_S64x64_1_0))
    (broadcastInDim S32768x64 ![] bcast_S_S32768x64 (constant S_ .f32 0x3E000000#32))

/-- Every coordinate's distance to every codebook entry. -/
def dists (y : (⟨S32768x64, .f32⟩ : BufTy).Contents (Elt F)) (cb : (⟨S16, .f32⟩ : BufTy).Contents (Elt F)) :
    (⟨S32768x64x16, .f32⟩ : BufTy).Contents (Elt F) :=
  Host.absf (subf
    (broadcastInDim S32768x64x16 ![0, 1, 2] bcast_S32768x64x1_S32768x64x16_0_1_2
      (broadcastInDim S32768x64x1 ![0, 1] bcast_S32768x64_S32768x64x1_0_1 y))
    (broadcastInDim S32768x64x16 ![0, 1, 2] bcast_S1x1x16_S32768x64x16_0_1_2
      (broadcastInDim S1x1x16 ![2] bcast_S16_S1x1x16_2 cb)))

/-- The index of the smallest distance, the first of them where several agree. -/
def nearest (d : (⟨S32768x64x16, .f32⟩ : BufTy).Contents (Elt F)) : (⟨S32768x64, .i32⟩ : BufTy).Contents (Elt F) :=
  fun j => (Host.argReduce reducer_argmin_f32_i32 d (iotaInDim S32768x64x16 32 2) (constant S_ .f32 0x7F800000#32)
    (constantI S_ 32 0#32) reducesTo_S32768x64x16_S32768x64_d2 h_S_ j).2

/-- The index the look-up reads: a negative one counts from the end. -/
def wrapped (i : (⟨S32768x64, .i32⟩ : BufTy).Contents (Elt F)) : (⟨S32768x64x1, .i32⟩ : BufTy).Contents (Elt F) :=
  broadcastInDim S32768x64x1 ![0, 1] bcast_S32768x64_S32768x64x1_0_1
    (select (cmpi .slt i (broadcastInDim S32768x64 ![] bcast_S_S32768x64 (constantI S_ 32 0#32)))
      (addi i (broadcastInDim S32768x64 ![] bcast_S_S32768x64 (constantI S_ 32 16#32))) i)

/-- Whether the look-up's index is one of the table's. -/
def inTable (w : (⟨S32768x64x1, .i32⟩ : BufTy).Contents (Elt F)) : (⟨S32768x64, .i1⟩ : BufTy).Contents (Elt F) :=
  Host.reduce IntOp.andi
    (andi (cmpi .sge w (broadcastInDim S32768x64x1 ![] bcast_S_S32768x64x1 (constantI S_ 32 0#32)))
      (cmpi .sle w (broadcastInDim S32768x64x1 ![0, 1, 2] bcast_S1x1x1_S32768x64x1_0_1_2
        (broadcastInDim S1x1x1 ![2] bcast_S1_S1x1x1_2 (constantI S1 32 15#32)))))
    (constantI S_ 1 1#1) reducesTo_S32768x64x1_S32768x64_d2 h_S_

/-- The table's entries at the indices, with the fill value outside the table. -/
def taken (cb : (⟨S16, .f32⟩ : BufTy).Contents (Elt F)) (w : (⟨S32768x64x1, .i32⟩ : BufTy).Contents (Elt F)) :
    (⟨S32768x64, .f32⟩ : BufTy).Contents (Elt F) :=
  select (inTable (F := F) w) (Host.gather gather_S16_S32768x64x1_S32768x64_n_0_n_n_0_2_1 cb w)
    (broadcastInDim S32768x64 ![] bcast_S_S32768x64 (constant S_ .f32 0x7FC00000#32))

/-- The reference's result: the nearest entries, rescaled and rotated back. -/
def out (x : (⟨S32x1024x64, .f32⟩ : BufTy).Contents (Elt F)) (r : (⟨S64x64, .f32⟩ : BufTy).Contents (Elt F))
    (cb : (⟨S16, .f32⟩ : BufTy).Contents (Elt F)) : (⟨S32x1024x64, .f32⟩ : BufTy).Contents (Elt F) :=
  shapeCast S32x1024x64
    (Host.dotGeneral dot_S32768x64_S64x64_S32768x64_1_0_0_1_n_n none
      (mulf (taken cb (wrapped (F := F) (nearest (dists (yNorm x r) cb))))
        (broadcastInDim S32768x64 ![] bcast_S_S32768x64 (constant S_ .f32 0x3E000000#32))) r)
    shapeCasts_S32768x64_S32x1024x64

/-- What the line leaves in the result buffer. -/
theorem out_eq (V : Valuation τ sig (Elt F)) :
    after ops V (main_v16 : DevRef τ sig)
      = out (V (main_arg0 : DevRef τ sig)) (V (main_arg1 : DevRef τ sig)) (V (main_arg2 : DevRef τ sig)) := by
  unfold ops
  after_results_simp
  simp only [TRef.ofBuf_toBuf]
  simp -implicitDefEqProofs only [TRef.toBuf, TRef.ofBuf, cast_cast, cast_eq]
  unfold out taken inTable wrapped nearest dists yNorm
  rfl

/-- The line writes none of the arguments. -/
theorem arg0_eq (V : Valuation τ sig (Elt F)) :
    after ops V (main_arg0 : DevRef τ sig) = V (main_arg0 : DevRef τ sig) := by
  simp only [ops, after_cons, after_nil]
  rfl

theorem arg1_eq (V : Valuation τ sig (Elt F)) :
    after ops V (main_arg1 : DevRef τ sig) = V (main_arg1 : DevRef τ sig) := by
  simp only [ops, after_cons, after_nil]
  rfl

theorem arg2_eq (V : Valuation τ sig (Elt F)) :
    after ops V (main_arg2 : DevRef τ sig) = V (main_arg2 : DevRef τ sig) := by
  simp only [ops, after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., unary_bufs_sub .., binary_bufs_sub .., nullary_bufs_sub .., unary_bufs_sub ..,
    binary_bufs_sub .., unary_bufs_sub .., unary_bufs_sub .., unary_bufs_sub .., unary_bufs_sub ..,
    binary_bufs_sub .., unary_bufs_sub .., nullary_bufs_sub .., nullary_bufs_sub .., nullary_bufs_sub ..,
    quaternary_bufs_sub .., quaternary_bufs_sub .., nullary_bufs_sub .., unary_bufs_sub .., binary_bufs_sub ..,
    nullary_bufs_sub .., unary_bufs_sub .., binary_bufs_sub .., ternary_bufs_sub .., unary_bufs_sub ..,
    nullary_bufs_sub .., nullary_bufs_sub .., unary_bufs_sub .., binary_bufs_sub .., unary_bufs_sub ..,
    unary_bufs_sub .., binary_bufs_sub .., binary_bufs_sub .., nullary_bufs_sub .., binary_bufs_sub ..,
    binary_bufs_sub .., nullary_bufs_sub .., unary_bufs_sub .., ternary_bufs_sub .., nullary_bufs_sub ..,
    unary_bufs_sub .., binary_bufs_sub .., binary_bufs_sub .., reshape_bufs_sub ..⟩

/-- Every run of the reference ends with its result at `out` of the launch contents and its arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16)
        = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c => ⟨(h c main_v16).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.Value

end
-- ==== Proof.Argmin.lean ====
module

public import proofs.«01_k».proof.Proof.RefRun
public import Idealize.ShloMosaic.PureOps.Ideal.Laws
public import Idealize.ShloMosaic.Lib.Pointwise

/-!
The reference's choice of a codebook entry, read at one coordinate: the index it finds is that of the first
smallest distance.
-/

@[expose] public section

set_option maxRecDepth 16384

noncomputable section

open Idealize.ShloMosaic Idealize.ShloMosaic.TcCoe

namespace Cert.ReferenceIdeal.Value

open Cert.ReferenceIdeal Cert.ReferenceIdeal.Gen

/-- Smaller value, or the same value at an index that is not larger. -/
def Before (p q : EReal × BitVec 32) : Prop := p.1 < q.1 ∨ (p.1 = q.1 ∧ p.2.toInt ≤ q.2.toInt)

theorem Before.refl (p : EReal × BitVec 32) : Before p p := Or.inr ⟨rfl, le_refl _⟩

theorem Before.trans {p q s : EReal × BitVec 32} (h : Before p q) (h' : Before q s) : Before p s := by
  rcases h with h | ⟨h, hi⟩ <;> rcases h' with h' | ⟨h', hi'⟩
  · exact Or.inl (h.trans h')
  · exact Or.inl (h' ▸ h)
  · exact Or.inl (h ▸ h')
  · exact Or.inr ⟨h.trans h', hi.trans hi'⟩

/-- One step of the reduction keeps one of the two pairs, and that one is before both. -/
theorem step_spec (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  obtain ⟨u, i⟩ := a
  obtain ⟨v, k⟩ := b
  unfold reducer_argmin_f32_i32
  simp only [Ideal.cmpf_def, Ideal.cmp, IntOp.cmpi, IntOp.ori, IntOp.andi, Scalar.select]
  by_cases h1 : u < v
  · have e : ¬ u = v := h1.ne
    simp [h1, e, Before]
  · by_cases h2 : u = v
    · subst h2
      by_cases h3 : i.toInt < k.toInt
      · simp [h3, Before, BitVec.slt, h3.le]
      · simp [h3, Before, BitVec.slt, not_lt.1 h3]
    · have h4 : v < u := lt_of_le_of_ne (not_lt.1 h1) (Ne.symm h2)
      simp [h1, h2, h4, Before]

/-- The whole reduction keeps one of its pairs, one that is before all of them. -/
theorem foldl_spec (L : List (EReal × BitVec 32)) (a : EReal × BitVec 32) :
    (L.foldl (reducer_argmin_f32_i32 (F := Ideal)) a ∈ a :: L)
      ∧ ∀ q ∈ a :: L, Before (L.foldl (reducer_argmin_f32_i32 (F := Ideal)) a) q := by
  induction L generalizing a with
  | nil => exact ⟨by simp, fun q hq => by simp at hq; subst hq; exact Before.refl _⟩
  | cons b L ih =>
    obtain ⟨hm, hb⟩ := ih (reducer_argmin_f32_i32 (F := Ideal) a b)
    obtain ⟨hs, ha, hb'⟩ := step_spec a b
    rw [List.foldl_cons]
    refine ⟨?_, fun q hq => ?_⟩
    · rcases List.mem_cons.1 hm with h | h
      · rw [h]; rcases hs with h | h <;> rw [h] <;> simp
      · simp [h]
    · have h0 := hb _ List.mem_cons_self
      rcases List.mem_cons.1 hq with h | h
      · subst h; exact h0.trans ha
      · rcases List.mem_cons.1 h with h | h
        · subst h; exact h0.trans hb'
        · exact hb _ (List.mem_cons_of_mem _ h)

/-- What the reduction of a pair of arrays leaves at one place: its starting pair or one of the pairs that lie
over the place, and one that is before all of those. -/
theorem argReduce_spec {s t u : Shape} {axes : List (Fin s.rank)} (x : FVec Ideal s .f32) (y : s.Idx → BitVec 32)
    (ix : u.Idx → Ideal .f32) (iy : u.Idx → BitVec 32) (h : s.ReducesTo axes t) (hu : 0 < u.numel) (j : t.Idx) :
    (Host.argReduce (reducer_argmin_f32_i32 (F := Ideal)) x y ix iy h hu j = (ix (Shape.Idx.first hu), iy (Shape.Idx.first hu))
      ∨ ∃ i, h.drop i = j ∧ Host.argReduce (reducer_argmin_f32_i32 (F := Ideal)) x y ix iy h hu j = (x i, y i))
    ∧ ∀ i, h.drop i = j → Before (Host.argReduce (reducer_argmin_f32_i32 (F := Ideal)) x y ix iy h hu j) (x i, y i) := by
  have hmem : ∀ p : EReal × BitVec 32, p ∈ Host.argReduceFiber (α := EReal) x y h j ↔ ∃ i, h.drop i = j ∧ p = (x i, y i) := by
    intro p
    unfold Host.argReduceFiber
    simp only [List.mem_map, List.mem_filter, List.mem_finRange, true_and, decide_eq_true_eq]
    constructor
    · rintro ⟨m, hm, rfl⟩
      exact ⟨_, hm, rfl⟩
    · rintro ⟨i, hi, rfl⟩
      refine ⟨s.rowMajor i, ?_, ?_⟩ <;> rw [Equiv.symm_apply_apply]
      exact hi
  rw [Ideal.argReduce_eq_reduce2, Host.reduce2_eq_foldl_fiber]
  obtain ⟨h1, h2⟩ := foldl_spec (Host.argReduceFiber (α := EReal) x y h j) (ix (Shape.Idx.first hu), iy (Shape.Idx.first hu))
  exact ⟨(List.mem_cons.1 h1).imp_right (hmem _).1, fun i hi => h2 _ (List.mem_cons_of_mem _ ((hmem _).2 ⟨i, hi, rfl⟩))⟩

/-- The entries one coordinate is compared with. -/
theorem drop_iff (n : Fin 32768) (e : Fin 64) (i : S32768x64x16.Idx) :
    reducesTo_S32768x64x16_S32768x64_d2.drop i = ix2 n e ↔ i 0 = n ∧ i 1 = e := by
  have h0 := Shape.ReducesTo.drop_apply_val_of_eq reducesTo_S32768x64x16_S32768x64_d2 i 0 0
  have h1 := Shape.ReducesTo.drop_apply_val_of_eq reducesTo_S32768x64x16_S32768x64_d2 i 1 1
  constructor
  · intro h
    rw [h] at h0 h1
    exact ⟨Fin.ext h0.symm, Fin.ext h1.symm⟩
  · rintro ⟨rfl, rfl⟩
    funext b
    match b with
    | ⟨0, _⟩ => exact Fin.ext h0
    | ⟨1, _⟩ => exact Fin.ext h1

theorem top_eq : Ideal.ofBits .f32 0x7F800000#32 = ⊤ := by simp [Ideal.ofBits, Ideal.ieee]

/-- A pair before all of a coordinate's entries is at the first smallest of them. -/
theorem first_of_before (d : Fin 16 → EReal) (p : EReal × BitVec 32)
    (hm : p = (⊤, 0#32) ∨ ∃ k : Fin 16, p = (d k, BitVec.ofNat 32 k.val))
    (hall : ∀ l : Fin 16, Before p (d l, BitVec.ofNat 32 l.val)) :
    ∃ k : Fin 16, p.2 = BitVec.ofNat 32 k.val ∧ (∀ l : Fin 16, d k ≤ d l) ∧ ∀ l : Fin 16, l < k → d k < d l := by
  have hint : ∀ l : Fin 16, (BitVec.ofNat 32 l.val).toInt = l.val := by decide
  rcases hm with h | ⟨k, h⟩
  · subst h
    refine ⟨0, rfl, fun l => ?_, fun l hl => absurd hl (Fin.not_lt_zero l)⟩
    rcases hall l with h | ⟨h, -⟩
    · exact absurd h not_top_lt
    · dsimp only at h; rw [← h]; exact le_top
  · subst h
    refine ⟨k, rfl, fun l => ?_, fun l hl => ?_⟩
    · rcases hall l with h | ⟨h, -⟩
      · exact h.le
      · exact h.le
    · rcases hall l with h | ⟨-, h⟩
      · exact h
      · dsimp only at h
        rw [hint, hint] at h
        have := Fin.lt_def.1 hl
        omega

/-- The reduction that finds the index. -/
theorem nearest_fun (d : FVec Ideal S32768x64x16 .f32) :
    nearest (F := Ideal) d = fun j => (Host.argReduce (reducer_argmin_f32_i32 (F := Ideal)) d (iotaInDim S32768x64x16 32 2)
      (constant S_ .f32 0x7F800000#32) (constantI S_ 32 0#32) reducesTo_S32768x64x16_S32768x64_d2 h_S_ j).2 := by
  delta nearest; rfl

/-- The index it finds at a coordinate is that of the first smallest of its sixteen distances. -/
theorem argmin_spec (d : FVec Ideal S32768x64x16 .f32) (n : Fin 32768) (e : Fin 64) :
    ∃ k : Fin 16, (Host.argReduce (reducer_argmin_f32_i32 (F := Ideal)) d (iotaInDim S32768x64x16 32 2)
        (constant S_ .f32 0x7F800000#32) (constantI S_ 32 0#32) reducesTo_S32768x64x16_S32768x64_d2 h_S_ (ix2 n e)).2
          = BitVec.ofNat 32 k.val
      ∧ (∀ l : Fin 16, d (ix3 n e k) ≤ d (ix3 n e l)) ∧ ∀ l : Fin 16, l < k → d (ix3 n e k) < d (ix3 n e l) := by
  have hs := argReduce_spec d (iotaInDim S32768x64x16 32 2) (constant S_ .f32 0x7F800000#32) (constantI S_ 32 0#32)
    reducesTo_S32768x64x16_S32768x64_d2 h_S_ (ix2 n e)
  generalize Host.argReduce (reducer_argmin_f32_i32 (F := Ideal)) _ _ _ _ _ _ _ = p at hs ⊢
  refine first_of_before (fun l => d (ix3 n e l)) _ (hs.1.imp (fun h => h.trans (Prod.ext top_eq rfl)) ?_)
    (fun l => hs.2 (ix3 n e l) ((drop_iff n e _).2 ⟨rfl, rfl⟩))
  rintro ⟨i, hi, h⟩
  obtain ⟨h0, h1⟩ := (drop_iff n e i).1 hi
  refine ⟨i 2, h.trans ?_⟩
  have e : i = ix3 n e (i 2) := by rw [← h0, ← h1]; exact eq_ix3 i
  exact Prod.ext (congrArg d e) rfl

/-- The same of the whole array of indices. -/
theorem nearest_spec (d : FVec Ideal S32768x64x16 .f32) (n : Fin 32768) (e : Fin 64) :
    ∃ k : Fin 16, nearest (F := Ideal) d (ix2 n e) = BitVec.ofNat 32 k.val
      ∧ (∀ l : Fin 16, d (ix3 n e k) ≤ d (ix3 n e l)) ∧ ∀ l : Fin 16, l < k → d (ix3 n e k) < d (ix3 n e l) := by
  obtain ⟨k, hk, h⟩ := argmin_spec d n e
  exact ⟨k, (congrFun (nearest_fun d) (ix2 n e)).trans hk, h⟩

end Cert.ReferenceIdeal.Value

end
-- ==== Proof.RefValue.lean ====
module

public import proofs.«01_k».proof.Proof.Argmin
public import proofs.«01_k».proof.Proof.Quant

/-!
The reference's arrays read at an index, over the extended reals: the rotated vectors in units of the scale,
the distances, the looked-up entries, and the result as a sum over the sixty-four coordinates.
-/

@[expose] public section

set_option maxRecDepth 16384

noncomputable section

open Idealize.ShloMosaic Idealize.ShloMosaic.TcCoe

namespace Cert.ReferenceIdeal.Value

open Cert.ReferenceIdeal Cert.ReferenceIdeal.Gen

/-- The index the look-up reads is the one found, which is never negative. -/
theorem wrapped_apply (i : (⟨S32768x64, .i32⟩ : BufTy).Contents (Elt Ideal)) (n : Fin 32768) (e : Fin 64) (z : Fin 1) (k : Fin 16)
    (h : i (ix2 n e) = BitVec.ofNat 32 k.val) : wrapped (F := Ideal) i (ix3 n e z) = BitVec.ofNat 32 k.val := by
  have hk : ∀ k : Fin 16, IntOp.cmpi .slt (BitVec.ofNat 32 k.val) 0#32 = 0#1 := by decide
  pointwise [wrapped]
  rw [h, hk]
  rfl

/-- The entry over each place of the array of look-ups. -/
theorem drop1_iff (n : Fin 32768) (e : Fin 64) (i : S32768x64x1.Idx) :
    reducesTo_S32768x64x1_S32768x64_d2.drop i = ix2 n e ↔ i = ix3 n e 0 := by
  have h0 := Shape.ReducesTo.drop_apply_val_of_eq reducesTo_S32768x64x1_S32768x64_d2 i 0 0
  have h1 := Shape.ReducesTo.drop_apply_val_of_eq reducesTo_S32768x64x1_S32768x64_d2 i 1 1
  constructor
  · intro h
    rw [h] at h0 h1
    funext b
    match b with
    | ⟨0, _⟩ => exact Fin.ext h0.symm
    | ⟨1, _⟩ => exact Fin.ext h1.symm
    | ⟨2, _⟩ => exact Subsingleton.elim (α := Fin 1) _ _
  · rintro rfl
    funext b
    match b with
    | ⟨0, _⟩ => exact Fin.ext h0
    | ⟨1, _⟩ => exact Fin.ext h1

/-- The look-up's index is one of the table's. -/
theorem inTable_apply (w : (⟨S32768x64x1, .i32⟩ : BufTy).Contents (Elt Ideal)) (n : Fin 32768) (e : Fin 64) (k : Fin 16)
    (h : w (ix3 n e 0) = BitVec.ofNat 32 k.val) : inTable (F := Ideal) w (ix2 n e) = 1#1 := by
  have hk : ∀ k : Fin 16, IntOp.andi (IntOp.andi (IntOp.cmpi .sge (BitVec.ofNat 32 k.val) 0#32) (IntOp.cmpi .sle (BitVec.ofNat 32 k.val) 15#32)) 1#1 = 1#1 := by decide
  unfold inTable
  rw [Host.reduce_eq_fold]
  have hf : (Finset.univ.filter fun i : S32768x64x1.Idx => reducesTo_S32768x64x1_S32768x64_d2.drop i = ix2 n e) = {ix3 n e 0} := by
    ext i
    simp only [Finset.mem_filter, Finset.mem_univ, true_and, Finset.mem_singleton]
    exact drop1_iff n e i
  rw [hf, Finset.fold_singleton]
  pointwise
  rw [h]
  exact hk k

/-- The look-up reads the table at its index. -/
theorem gather_apply (cb : FVec Ideal S16 .f32) (w : IVec S32768x64x1 32) (n : Fin 32768) (e : Fin 64) (k : Fin 16)
    (h : w (ix3 n e 0) = BitVec.ofNat 32 k.val) :
    Host.gather gather_S16_S32768x64x1_S32768x64_n_0_n_n_0_2_1 cb w (ix2 n e) = cb (ix1 k) := by
  have hk : ∀ k : Fin 16, min (BitVec.ofNat 32 k.val).toInt.toNat (16 - 1) = k.val := by decide
  unfold Host.gather
  congr 1
  funext a
  have ha0 : a = 0 := Subsingleton.elim _ _
  subst ha0
  apply Fin.ext
  have hb : (0 : Fin 1) ∉ gather_S16_S32768x64x1_S32768x64_n_0_n_n_0_2_1.operandBatchingDims := List.not_mem_nil
  have hkk : (0 : Fin 1) ∉ gather_S16_S32768x64x1_S32768x64_n_0_n_n_0_2_1.sKept := by
    rw [GatherDims.mem_sKept]; simp [gather_S16_S32768x64x1_S32768x64_n_0_n_n_0_2_1]
  have hm : (0 : Fin 1) ∈ gather_S16_S32768x64x1_S32768x64_n_0_n_n_0_2_1.startIndexMap := List.mem_singleton.mpr rfl
  simp only [GatherDims.operandIdx, GatherDims.batchCoord_eq_zero _ _ _ hb, GatherDims.offCoord_eq_zero _ _ _ hkk,
    Nat.add_zero, GatherDims.start, dif_pos hm]
  have hsi : gather_S16_S32768x64x1_S32768x64_n_0_n_n_0_2_1.siIdx (ix2 n e)
      ⟨List.idxOf 0 gather_S16_S32768x64x1_S32768x64_n_0_n_n_0_2_1.startIndexMap, List.idxOf_lt_length_of_mem hm⟩ = ix3 n e 0 := by
    funext b
    match b with
    | ⟨0, _⟩ => rfl
    | ⟨1, _⟩ => rfl
    | ⟨2, _⟩ => exact Subsingleton.elim (α := Fin 1) _ _
  rw [hsi, h]
  exact hk k

/-- Coordinate `e` of the `n`-th rotated vector. -/
def turned (x : FVec Ideal S32x1024x64 .f32) (r : FVec Ideal S64x64 .f32) (n : Fin 32768) (e : Fin 64) : EReal :=
  ∑ d : Fin 64, x (ix3 ⟨n.val / 1024, by omega⟩ ⟨n.val % 1024, by omega⟩ d) * r (ix2 e d)

/-- The rotated vectors, in units of the scale. -/
theorem yNorm_apply (x : FVec Ideal S32x1024x64 .f32) (r : FVec Ideal S64x64 .f32) (n : Fin 32768) (e : Fin 64) :
    yNorm (F := Ideal) x r (ix2 n e) = Ideal.div (turned x r n e) Quant.scale := by
  pointwise [yNorm]
  rfl

/-- The distance of each coordinate from each codebook entry. -/
theorem dists_apply (y : FVec Ideal S32768x64 .f32) (cb : FVec Ideal S16 .f32) (n : Fin 32768) (e : Fin 64) (k : Fin 16) :
    dists (F := Ideal) y cb (ix3 n e k) = Quant.dist (fun j => cb (ix1 j)) (y (ix2 n e)) k := by
  pointwise [dists]
  rfl

/-- The entry looked up. -/
theorem taken_apply (cb : FVec Ideal S16 .f32) (w : IVec S32768x64x1 32) (n : Fin 32768) (e : Fin 64) (k : Fin 16)
    (h : w (ix3 n e 0) = BitVec.ofNat 32 k.val) : taken (F := Ideal) cb w (ix2 n e) = cb (ix1 k) := by
  have h1 := inTable_apply w n e k h
  have h2 := gather_apply cb w n e k h
  have hs : ∀ a b : EReal, Scalar.select (1#1) a b = a := fun _ _ => rfl
  unfold taken
  rw [ValueIdx.select_apply]
  generalize inTable (F := Ideal) w = p at h1 ⊢
  rw [h1, hs, h2]

/-- The entries looked up, scaled and turned back. -/
def back (t : FVec Ideal S32768x64 .f32) (r : FVec Ideal S64x64 .f32) : FVec Ideal S32x1024x64 .f32 :=
  shapeCast S32x1024x64 (Host.dotGeneral dot_S32768x64_S64x64_S32768x64_1_0_0_1_n_n none
    (mulf t (broadcastInDim S32768x64 ![] bcast_S_S32768x64 (constant S_ .f32 0x3E000000#32))) r)
    shapeCasts_S32768x64_S32x1024x64

/-- The result is the entries looked up, turned back. -/
theorem out_fun (x : FVec Ideal S32x1024x64 .f32) (r : FVec Ideal S64x64 .f32) (cb : FVec Ideal S16 .f32) :
    out (F := Ideal) x r cb =
      back (taken (F := Ideal) cb (wrapped (F := Ideal) (nearest (F := Ideal) (dists (F := Ideal) (yNorm (F := Ideal) x r) cb)))) r := by
  delta out back
  rfl

/-- The turned-back array at an index. -/
theorem back_apply (t : FVec Ideal S32768x64 .f32) (r : FVec Ideal S64x64 .f32) (b : Fin 32) (s : Fin 1024) (d : Fin 64) :
    back t r (ix3 b s d) = ∑ e : Fin 64, t (ix2 ⟨b.val * 1024 + s.val, by omega⟩ e) * Quant.scale * r (ix2 e d) := by
  pointwise [back]
  rfl

/-- What the precondition says, over the arrays as functions. -/
structure Separated (x : FVec Ideal S32x1024x64 .f32) (r : FVec Ideal S64x64 .f32) (cb : FVec Ideal S16 .f32) : Prop where
  book : Quant.Book fun j => cb (ix1 j)
  finite : ∀ n e, Ideal.div (turned x r n e) Quant.scale < ⊤
  apart : ∀ n e (j : Fin 8), Ideal.div (turned x r n e) Quant.scale ≠
    Quant.border (cb (ix1 ⟨j.val, by omega⟩)) (cb (ix1 ⟨j.val + 1, by omega⟩))

/-- The entry looked up, scaled, is the quantised coordinate. -/
theorem taken_quant (x : FVec Ideal S32x1024x64 .f32) (r : FVec Ideal S64x64 .f32) (cb : FVec Ideal S16 .f32)
    (h : Separated x r cb) (n : Fin 32768) (e : Fin 64) :
    taken (F := Ideal) cb (wrapped (F := Ideal) (nearest (F := Ideal) (dists (F := Ideal) (yNorm (F := Ideal) x r) cb))) (ix2 n e)
      * Quant.scale = Quant.quant (fun j => cb (ix1 j)) (turned x r n e) := by
  obtain ⟨k, hk, hmin, hfirst⟩ := nearest_spec (dists (F := Ideal) (yNorm (F := Ideal) x r) cb) n e
  rw [taken_apply cb _ n e k (wrapped_apply _ n e 0 k hk)]
  simp only [dists_apply, yNorm_apply] at hmin hfirst
  exact (Quant.quant_eq h.book (h.finite n e) hmin hfirst (h.apart n e)).symm

/-- The result at an index: the quantised coordinates, turned back. -/
theorem out_apply (x : FVec Ideal S32x1024x64 .f32) (r : FVec Ideal S64x64 .f32) (cb : FVec Ideal S16 .f32)
    (h : Separated x r cb) (b : Fin 32) (s : Fin 1024) (d : Fin 64) :
    out (F := Ideal) x r cb (ix3 b s d) = ∑ e : Fin 64,
      Quant.quant (fun j => cb (ix1 j)) (∑ d' : Fin 64, x (ix3 b s d') * r (ix2 e d')) * r (ix2 e d) := by
  rw [out_fun, back_apply]
  refine Finset.sum_congr rfl fun e _ => ?_
  rw [taken_quant x r cb h]
  congr 2
  unfold turned
  have hb : (⟨(b.val * 1024 + s.val) / 1024, by omega⟩ : Fin 32) = b := Fin.ext (by show _ / _ = b.val; omega)
  have hs : (⟨(b.val * 1024 + s.val) % 1024, by omega⟩ : Fin 1024) = s := Fin.ext (by show _ % _ = s.val; omega)
  refine Finset.sum_congr rfl fun d' _ => ?_
  rw [hb, hs]

end Cert.ReferenceIdeal.Value

end
-- ==== Proof.PreRead.lean ====
module

public import proofs.«01_k».proof.Proof.RefValue
public import proofs.«01_k».proof.Proof.Gen.Pre_separated

/-!
The precondition read at its indices: an ascending, mirrored codebook below infinity, and rotated vectors
below infinity that lie on none of the borders between neighbouring entries of the lower half.
-/

@[expose] public section

set_option maxRecDepth 16384

noncomputable section

open Idealize.ShloMosaic Idealize.ShloMosaic.TcCoe

namespace Cert.ReferenceIdeal.Value

open Cert.Pre_separated Cert.Pre_separated.Facts

/-- A comparison's word is one exactly where the comparison holds. -/
theorem holds {p : Prop} [Decidable p] (h : BitVec.ofBool (decide p) = 1#1) : p := by
  by_contra hp
  rw [decide_eq_false hp] at h
  exact absurd h (by decide)

/-- Each entry is at most the next. -/
theorem pre1 (cb : FVec Ideal S16 .f32)
    (h : cmpf .ole (extractStridedSlice S15 ![0] cb slices_S16_S15_0) (extractStridedSlice S15 ![1] cb slices_S16_S15_1) = fun _ => 1#1)
    (j : Fin 15) : cb (ix1 j.castSucc) ≤ cb (ix1 j.succ) := by
  have := congrFun h (ix1 j)
  revert this
  pointwise
  intro h
  have h := holds h
  rwa [show (⟨1 + j.val, by omega⟩ : Fin 16) = j.succ from Fin.ext (Nat.add_comm _ _)] at h

/-- The codebook is its own mirror image, negated. -/
theorem pre2 (cb : FVec Ideal S16 .f32)
    (h : cmpf .oeq cb (Host.negf (Host.reverse [0] cb)) = fun _ => 1#1)
    (j : Fin 16) : cb (ix1 j) = - cb (ix1 j.rev) := by
  have := congrFun h (ix1 j)
  revert this
  pointwise
  intro h
  exact holds h

/-- No entry is infinity. -/
theorem pre3 (cb : FVec Ideal S16 .f32)
    (h : cmpf .olt cb (broadcastInDim S16 ![] bcast_S_S16 (constant (F := Ideal) S_ .f32 0x7F800000#32)) = fun _ => 1#1)
    (j : Fin 16) : cb (ix1 j) < ⊤ := by
  have := congrFun h (ix1 j)
  revert this
  pointwise
  intro h
  exact (holds h).trans_eq Quant.top_eq

/-- No rotated coordinate is infinity. -/
theorem pre4 (y : FVec Ideal S32768x64 .f32)
    (h : cmpf .olt y (broadcastInDim S32768x64 ![] bcast_S_S32768x64 (constant (F := Ideal) S_ .f32 0x7F800000#32)) = fun _ => 1#1)
    (n : Fin 32768) (e : Fin 64) : y (ix2 n e) < ⊤ := by
  have := congrFun h (ix2 n e)
  revert this
  pointwise
  intro h
  exact (holds h).trans_eq Quant.top_eq

/-- No rotated coordinate lies on a border. -/
theorem pre5 (y : FVec Ideal S32768x64 .f32) (cb : FVec Ideal S16 .f32)
    (h : cmpf .une (broadcastInDim S32768x64x8 ![0, 1, 2] bcast_S32768x64x1_S32768x64x8_0_1_2 (broadcastInDim S32768x64x1 ![0, 1] bcast_S32768x64_S32768x64x1_0_1 y))
      (broadcastInDim S32768x64x8 ![0, 1, 2] bcast_S1x1x8_S32768x64x8_0_1_2 (broadcastInDim S1x1x8 ![2] bcast_S8_S1x1x8_2
        (mulf (addf (extractStridedSlice S8 ![0] cb slices_S16_S8_0) (extractStridedSlice S8 ![1] cb slices_S16_S8_1))
          (broadcastInDim S8 ![] bcast_S_S8 (constant (F := Ideal) S_ .f32 0x3F000000#32))))) = fun _ => 1#1)
    (n : Fin 32768) (e : Fin 64) (j : Fin 8) :
    y (ix2 n e) ≠ Quant.border (cb (ix1 ⟨j.val, by omega⟩)) (cb (ix1 ⟨j.val + 1, by omega⟩)) := by
  have := congrFun h (ix3 n e j)
  revert this
  pointwise
  intro h
  have h := holds h
  rwa [show (⟨1 + j.val, by omega⟩ : Fin 16) = ⟨j.val + 1, by omega⟩ from Fin.ext (Nat.add_comm _ _)] at h

/-- The precondition, read. -/
theorem separated_of (x : FVec Ideal S32x1024x64 .f32) (r : FVec Ideal S64x64 .f32) (cb : FVec Ideal S16 .f32)
    (h : (Cert.Pre_separated.fn (F := Ideal) x r cb).1 = (fun _ => 1#1) ∧ (Cert.Pre_separated.fn (F := Ideal) x r cb).2.1 = (fun _ => 1#1)
      ∧ (Cert.Pre_separated.fn (F := Ideal) x r cb).2.2.1 = (fun _ => 1#1) ∧ (Cert.Pre_separated.fn (F := Ideal) x r cb).2.2.2.1 = (fun _ => 1#1)
      ∧ (Cert.Pre_separated.fn (F := Ideal) x r cb).2.2.2.2 = (fun _ => 1#1)) :
    Separated x r cb := by
  obtain ⟨h1, h2, h3, h4, h5⟩ := h
  refine ⟨⟨pre1 cb h1, pre2 cb h2, pre3 cb h3⟩, fun n e => ?_, fun n e j => ?_⟩
  · rw [← yNorm_apply]
    exact pre4 _ h4 n e
  · rw [← yNorm_apply]
    exact pre5 _ cb h5 n e j

end Cert.ReferenceIdeal.Value

end
-- ==== Proof.Equal.lean ====
module

public import proofs.«01_k».proof.Proof.Kern
public import proofs.«01_k».proof.Proof.PreRead
public import proofs.«01_k».proof.Proof.RefRun

/-!
The equation: on arguments of which the precondition holds, the kernel returns the reference's array.
-/

@[expose] public section

noncomputable section

open Idealize.ShloMosaic Idealize.ShloMosaic.TcCoe Idealize.SL.Sem

namespace Cert.Equal

/-- Entry by entry both sides turn a row, round each turned value to the codebook and turn back; they differ in the order
of the factors of each product only. -/
theorem result_eq (m : (ℓ : Loc Cert.KernelIdeal.nD Cert.KernelIdeal.τ Cert.KernelIdeal.sig) → Buf (Elt Ideal) ℓ) (c : Dev Cert.KernelIdeal.nD)
    (h : Cert.ReferenceIdeal.Value.Separated (Cert.KernelIdeal.Value.xOf m c) (Cert.KernelIdeal.Value.rotOf m c) (Cert.KernelIdeal.Value.cbOf m c)) :
    Cert.KernelIdeal.Value.result m c
      = Cert.ReferenceIdeal.Value.out (F := Ideal) (Cert.KernelIdeal.Value.xOf m c) (Cert.KernelIdeal.Value.rotOf m c) (Cert.KernelIdeal.Value.cbOf m c) := by
  funext j
  obtain ⟨b, s, d, rfl⟩ : ∃ (b : Fin 32) (s : Fin 1024) (d : Fin 64), j = ix3 b s d := ⟨j 0, j 1, j 2, eq_ix3 j⟩
  rw [Cert.ReferenceIdeal.Value.out_apply _ _ _ h b s d]
  refine (Cert.KernelIdeal.Value.result_apply m c b s d).trans ?_
  refine Finset.sum_congr rfl fun e _ => ?_
  rw [mul_comm]
  refine congrArg (fun z => Quant.quant _ z * Cert.KernelIdeal.Value.rotOf m c (ix2 e d)) ?_
  exact Finset.sum_congr rfl fun k _ => mul_comm _ _

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_separated
public import proofs.«01_k».proof.Proof.Equal
public import Idealize.ShloMosaic.Adequacy
public import Idealize.ShloMosaic.Init

@[expose] public section

noncomputable section

namespace Cert.Proof

open Idealize.ShloMosaic Idealize.ShloMosaic.TcCoe Idealize.SL.Sem

/-- The reference runs, keeps its arguments and leaves every counter at zero: it has no semaphores. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run m g)

/-- The kernel's array is the reference's, on arguments of which the precondition holds. -/
theorem algebraic : Cert.algebraic_KernelIdeal_ReferenceIdeal_pre_separated
    (hKernelIdeal := Cert.KernelIdeal.Gen.facts) (hReferenceIdeal := Cert.ReferenceIdeal.Gen.facts) (hPre_separated := Cert.Pre_separated.Gen.facts) := by
  intro m g m' g' hpre hargs
  refine ⟨fun c => Cert.KernelIdeal.Value.result m c, Cert.KernelIdeal.Value.run m g, ?_⟩
  refine (θ_run Cert.ReferenceIdeal.defs _ _).mono ?_ (Cert.ReferenceIdeal.Value.run m' g')
  intro r h c
  refine ⟨(h c).1.trans ?_, (h c).2⟩
  obtain ⟨h0, h1, h2⟩ := hargs c
  rw [h0, h1, h2]
  exact (Cert.Equal.result_eq m c (Cert.ReferenceIdeal.Value.separated_of _ _ _ (hpre c))).symm

theorem claim : Cert.Claim := ⟨Cert.Kernel.Gen.facts, Cert.KernelIdeal.Gen.facts, Cert.ReferenceIdeal.Gen.facts, Cert.Pre_separated.Gen.facts,
  fun m g _ => Cert.Kernel.Gen.frame m g,
  fun m g _ => Cert.KernelIdeal.Gen.frame m g,
  fun m g _ => Cert.KernelIdeal.Gen.frame m g,
  fun m g _ => frame_reference m g,
  fun m g _ => frame_reference m g,
  IdealRules.sign_bit.statement _ _,
  algebraic⟩

end Cert.Proof

end
